-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S128x1x7168 : Shape := ⟨3, ![128, 1, 7168]⟩
abbrev S4608x3584 : Shape := ⟨2, ![4608, 3584]⟩
abbrev S4608x56 : Shape := ⟨2, ![4608, 56]⟩
abbrev S7168x2304 : Shape := ⟨2, ![7168, 2304]⟩
abbrev S7168x36 : Shape := ⟨2, ![7168, 36]⟩
abbrev S_ : Shape := ⟨0, ![]⟩

class Facts : Prop where
  bcast_S_S4608x56 : S_.BroadcastsInDim S4608x56 (![] : Fin 0 → Fin S4608x56.rank)
  reducesTo_S4608x56_S_d0_1 : S4608x56.ReducesTo [0, 1] S_
  h_S_ : 0 < S_.numel
  bcast_S_S7168x36 : S_.BroadcastsInDim S7168x36 (![] : Fin 0 → Fin S7168x36.rank)
  reducesTo_S7168x36_S_d0_1 : S7168x36.ReducesTo [0, 1] S_

variable [Facts]

def fn {F : FTy → Type} [FloatOps F] (main_arg0 : FVec F S128x1x7168 .bf16) (main_arg1 : IVec S4608x3584 8) (main_arg2 : FVec F S4608x56 .f32) (main_arg3 : IVec S4608x3584 8) (main_arg4 : FVec F S4608x56 .f32) (main_arg5 : IVec S7168x2304 8) (main_arg6 : FVec F S7168x36 .f32) : IVec S_ 1 :=
  let main_v0 : FVec F S4608x56 .f32 := Host.absf main_arg2
  let main_cst : FVec F S_ .f32 := constant S_ .f32 0x7F800000#32
  let main_v1 : FVec F S4608x56 .f32 := broadcastInDim S4608x56 ![] bcast_S_S4608x56 main_cst
  let main_v2 : IVec S4608x56 1 := cmpf .olt main_v0 main_v1
  let main_c : IVec S_ 1 := constantI S_ 1 1#1
  let main_v3 : IVec S_ 1 := (fun x v => Host.reduce IntOp.andi x v reducesTo_S4608x56_S_d0_1 h_S_) main_v2 main_c
  let main_v4 : FVec F S4608x56 .f32 := Host.absf main_arg4
  let main_cst_0 : FVec F S_ .f32 := constant S_ .f32 0x7F800000#32
  let main_v5 : FVec F S4608x56 .f32 := broadcastInDim S4608x56 ![] bcast_S_S4608x56 main_cst_0
  let main_v6 : IVec S4608x56 1 := cmpf .olt main_v4 main_v5
  let main_c_1 : IVec S_ 1 := constantI S_ 1 1#1
  let main_v7 : IVec S_ 1 := (fun x v => Host.reduce IntOp.andi x v reducesTo_S4608x56_S_d0_1 h_S_) main_v6 main_c_1
  let main_v8 : IVec S_ 1 := andi main_v3 main_v7
  let main_v9 : FVec F S7168x36 .f32 := Host.absf main_arg6
  let main_cst_2 : FVec F S_ .f32 := constant S_ .f32 0x7F800000#32
  let main_v10 : FVec F S7168x36 .f32 := broadcastInDim S7168x36 ![] bcast_S_S7168x36 main_cst_2
  let main_v11 : IVec S7168x36 1 := cmpf .olt main_v9 main_v10
  let main_c_3 : IVec S_ 1 := constantI S_ 1 1#1
  let main_v12 : IVec S_ 1 := (fun x v => Host.reduce IntOp.andi x v reducesTo_S7168x36_S_d0_1 h_S_) main_v11 main_c_3
  let main_v13 : IVec S_ 1 := andi main_v8 main_v12
  main_v13
-- ==== Kernel.lean ====
abbrev S128x1x7168 : Shape := ⟨3, ![128, 1, 7168]⟩
abbrev S4608x3584 : Shape := ⟨2, ![4608, 3584]⟩
abbrev S4608x56 : Shape := ⟨2, ![4608, 56]⟩
abbrev S7168x2304 : Shape := ⟨2, ![7168, 2304]⟩
abbrev S7168x36 : Shape := ⟨2, ![7168, 36]⟩
abbrev S128x56x2x64 : Shape := ⟨4, ![128, 56, 2, 64]⟩
abbrev S128x56x64x2 : Shape := ⟨4, ![128, 56, 64, 2]⟩
abbrev S128x7168 : Shape := ⟨2, ![128, 7168]⟩
abbrev S56x4608 : Shape := ⟨2, ![56, 4608]⟩
abbrev S_ : Shape := ⟨0, ![]⟩
abbrev S36x7168 : Shape := ⟨2, ![36, 7168]⟩
abbrev S256x3584 : Shape := ⟨2, ![256, 3584]⟩
abbrev S56x256 : Shape := ⟨2, ![56, 256]⟩
abbrev S512x2304 : Shape := ⟨2, ![512, 2304]⟩
abbrev S36x512 : Shape := ⟨2, ![36, 512]⟩
abbrev S128x512 : Shape := ⟨2, ![128, 512]⟩
abbrev S128x4608 : Shape := ⟨2, ![128, 4608]⟩
abbrev S128x256 : Shape := ⟨2, ![128, 256]⟩
abbrev S256x128 : Shape := ⟨2, ![256, 128]⟩
abbrev S32x256 : Shape := ⟨2, ![32, 256]⟩
abbrev S32x1x256 : Shape := ⟨3, ![32, 1, 256]⟩
abbrev S32x8x256 : Shape := ⟨3, ![32, 8, 256]⟩
abbrev S256x256 : Shape := ⟨2, ![256, 256]⟩
abbrev S1x256 : Shape := ⟨2, ![1, 256]⟩
abbrev S128x128 : Shape := ⟨2, ![128, 128]⟩
abbrev S128x128x1 : Shape := ⟨3, ![128, 128, 1]⟩

abbrev nBuf : Space → Nat
  | .hbm => 41
  | .vmem => 22
  | .smem => 0
  | _ => 0

abbrev bufTy : (tb : Table) → Fin (tcTables nBuf tb) → BufTy
  | .hbm, ⟨0, _⟩ => ⟨S128x1x7168, .bf16⟩
  | .hbm, ⟨1, _⟩ => ⟨S4608x3584, .i8⟩
  | .hbm, ⟨2, _⟩ => ⟨S4608x56, .f32⟩
  | .hbm, ⟨3, _⟩ => ⟨S4608x3584, .i8⟩
  | .hbm, ⟨4, _⟩ => ⟨S4608x56, .f32⟩
  | .hbm, ⟨5, _⟩ => ⟨S7168x2304, .i8⟩
  | .hbm, ⟨6, _⟩ => ⟨S7168x36, .f32⟩
  | .hbm, ⟨7, _⟩ => ⟨S128x56x2x64, .bf16⟩
  | .hbm, ⟨8, _⟩ => ⟨S128x56x64x2, .bf16⟩
  | .hbm, ⟨9, _⟩ => ⟨S128x7168, .bf16⟩
  | .hbm, ⟨10, _⟩ => ⟨S56x4608, .f32⟩
  | .hbm, ⟨11, _⟩ => ⟨S_, .f32⟩
  | .hbm, ⟨12, _⟩ => ⟨S56x4608, .f32⟩
  | .hbm, ⟨13, _⟩ => ⟨S56x4608, .f32⟩
  | .hbm, ⟨14, _⟩ => ⟨S_, .f32⟩
  | .hbm, ⟨15, _⟩ => ⟨S56x4608, .f32⟩
  | .hbm, ⟨16, _⟩ => ⟨S56x4608, .f32⟩
  | .hbm, ⟨17, _⟩ => ⟨S56x4608, .f32⟩
  | .hbm, ⟨18, _⟩ => ⟨S56x4608, .f32⟩
  | .hbm, ⟨19, _⟩ => ⟨S56x4608, .f32⟩
  | .hbm, ⟨20, _⟩ => ⟨S56x4608, .f32⟩
  | .hbm, ⟨21, _⟩ => ⟨S_, .f32⟩
  | .hbm, ⟨22, _⟩ => ⟨S56x4608, .f32⟩
  | .hbm, ⟨23, _⟩ => ⟨S56x4608, .f32⟩
  | .hbm, ⟨24, _⟩ => ⟨S_, .f32⟩
  | .hbm, ⟨25, _⟩ => ⟨S56x4608, .f32⟩
  | .hbm, ⟨26, _⟩ => ⟨S56x4608, .f32⟩
  | .hbm, ⟨27, _⟩ => ⟨S56x4608, .f32⟩
  | .hbm, ⟨28, _⟩ => ⟨S56x4608, .f32⟩
  | .hbm, ⟨29, _⟩ => ⟨S56x4608, .f32⟩
  | .hbm, ⟨30, _⟩ => ⟨S36x7168, .f32⟩
  | .hbm, ⟨31, _⟩ => ⟨S_, .f32⟩
  | .hbm, ⟨32, _⟩ => ⟨S36x7168, .f32⟩
  | .hbm, ⟨33, _⟩ => ⟨S36x7168, .f32⟩
  | .hbm, ⟨34, _⟩ => ⟨S_, .f32⟩
  | .hbm, ⟨35, _⟩ => ⟨S36x7168, .f32⟩
  | .hbm, ⟨36, _⟩ => ⟨S36x7168, .f32⟩
  | .hbm, ⟨37, _⟩ => ⟨S36x7168, .f32⟩
  | .hbm, ⟨38, _⟩ => ⟨S36x7168, .f32⟩
  | .hbm, ⟨39, _⟩ => ⟨S36x7168, .f32⟩
  | .hbm, ⟨40, _⟩ => ⟨S128x7168, .bf16⟩
  | .local _ .vmem, ⟨0, _⟩ => ⟨S128x7168, .bf16⟩
  | .local _ .vmem, ⟨1, _⟩ => ⟨S256x3584, .i8⟩
  | .local _ .vmem, ⟨2, _⟩ => ⟨S256x3584, .i8⟩
  | .local _ .vmem, ⟨3, _⟩ => ⟨S56x256, .f32⟩
  | .local _ .vmem, ⟨4, _⟩ => ⟨S56x256, .f32⟩
  | .local _ .vmem, ⟨5, _⟩ => ⟨S56x256, .f32⟩
  | .local _ .vmem, ⟨6, _⟩ => ⟨S56x256, .f32⟩
  | .local _ .vmem, ⟨7, _⟩ => ⟨S256x3584, .i8⟩
  | .local _ .vmem, ⟨8, _⟩ => ⟨S256x3584, .i8⟩
  | .local _ .vmem, ⟨9, _⟩ => ⟨S56x256, .f32⟩
  | .local _ .vmem, ⟨10, _⟩ => ⟨S56x256, .f32⟩
  | .local _ .vmem, ⟨11, _⟩ => ⟨S56x256, .f32⟩
  | .local _ .vmem, ⟨12, _⟩ => ⟨S56x256, .f32⟩
  | .local _ .vmem, ⟨13, _⟩ => ⟨S512x2304, .i8⟩
  | .local _ .vmem, ⟨14, _⟩ => ⟨S512x2304, .i8⟩
  | .local _ .vmem, ⟨15, _⟩ => ⟨S36x512, .f32⟩
  | .local _ .vmem, ⟨16, _⟩ => ⟨S36x512, .f32⟩
  | .local _ .vmem, ⟨17, _⟩ => ⟨S36x512, .f32⟩
  | .local _ .vmem, ⟨18, _⟩ => ⟨S36x512, .f32⟩
  | .local _ .vmem, ⟨19, _⟩ => ⟨S128x512, .bf16⟩
  | .local _ .vmem, ⟨20, _⟩ => ⟨S128x512, .bf16⟩
  | .local _ .vmem, ⟨21, _⟩ => ⟨S128x4608, .bf16⟩
  | _, _ => ⟨S128x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c18_i32 : BitVec 32 := 18#32
  let v0 : BitVec 1 := Scalar.cmpi .slt arg0 c18_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v3009 : BitVec 32 := Scalar.muli arg0 c256_i32
  v3009
def k0_off1 (i : grid0.Coords) : Fin 2 → Nat :=
  let c0_858 : Index := 0#32
  let arg0 : BitVec 32 := BitVec.ofNat 32 (i 0).val
  let c256_i32 : BitVec 32 := 256#32
  let v3009 : BitVec 32 := Scalar.muli arg0 c256_i32
  let v3010 : BitVec 32 := v3009
  let v3011 : Index := Scalar.indexCast v3010
  ![0, v3011.toNat]
def k0_cond2 (i : grid0.Coords) : BitVec 1 :=
  let arg0 : BitVec 32 := BitVec.ofNat 32 (i 0).val
  let c18_i32_0 : BitVec 32 := 18#32
  let v3 : BitVec 1 := Scalar.cmpi .sge arg0 c18_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c18_i32 : BitVec 32 := 18#32
  let v0 : BitVec 32 := Scalar.subi arg0 c18_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S56x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S56x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2304 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S36x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S36x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S128x1x7168 : Shape := ⟨3, ![128, 1, 7168]⟩
abbrev S4608x3584 : Shape := ⟨2, ![4608, 3584]⟩
abbrev S4608x56 : Shape := ⟨2, ![4608, 56]⟩
abbrev S7168x2304 : Shape := ⟨2, ![7168, 2304]⟩
abbrev S7168x36 : Shape := ⟨2, ![7168, 36]⟩
abbrev S4608x56x64 : Shape := ⟨3, ![4608, 56, 64]⟩
abbrev S4608x56x1 : Shape := ⟨3, ![4608, 56, 1]⟩
abbrev S_ : Shape := ⟨0, ![]⟩
abbrev S128x1x56x2x64 : Shape := ⟨5, ![128, 1, 56, 2, 64]⟩
abbrev S128x1x56x1x64 : Shape := ⟨5, ![128, 1, 56, 1, 64]⟩
abbrev S128x1x56x64 : Shape := ⟨4, ![128, 1, 56, 64]⟩
abbrev S128x1x4608 : Shape := ⟨3, ![128, 1, 4608]⟩
abbrev S7168x36x64 : Shape := ⟨3, ![7168, 36, 64]⟩
abbrev S7168x36x1 : Shape := ⟨3, ![7168, 36, 1]⟩
abbrev S128x1x36x2x64 : Shape := ⟨5, ![128, 1, 36, 2, 64]⟩
abbrev S128x1x36x1x64 : Shape := ⟨5, ![128, 1, 36, 1, 64]⟩
abbrev S128x1x36x64 : Shape := ⟨4, ![128, 1, 36, 64]⟩
abbrev S128x7168 : Shape := ⟨2, ![128, 7168]⟩

abbrev nBuf : Space → Nat
  | .hbm => 113
  | .vmem => 0
  | .smem => 0
  | _ => 0

abbrev bufTy : (tb : Table) → Fin (tcTables nBuf tb) → BufTy
  | .hbm, ⟨0, _⟩ => ⟨S128x1x7168, .bf16⟩
  | .hbm, ⟨1, _⟩ => ⟨S4608x3584, .i8⟩
  | .hbm, ⟨2, _⟩ => ⟨S4608x56, .f32⟩
  | .hbm, ⟨3, _⟩ => ⟨S4608x3584, .i8⟩
  | .hbm, ⟨4, _⟩ => ⟨S4608x56, .f32⟩
  | .hbm, ⟨5, _⟩ => ⟨S7168x2304, .i8⟩
  | .hbm, ⟨6, _⟩ => ⟨S7168x36, .f32⟩
  | .hbm, ⟨7, _⟩ => ⟨S4608x3584, .i32⟩
  | .hbm, ⟨8, _⟩ => ⟨S4608x56x64, .i32⟩
  | .hbm, ⟨9, _⟩ => ⟨S4608x56x1, .f32⟩
  | .hbm, ⟨10, _⟩ => ⟨S_, .i32⟩
  | .hbm, ⟨11, _⟩ => ⟨S4608x56x64, .i32⟩
  | .hbm, ⟨12, _⟩ => ⟨S4608x56x64, .i32⟩
  | .hbm, ⟨13, _⟩ => ⟨S4608x56x64, .f32⟩
  | .hbm, ⟨14, _⟩ => ⟨S_, .f32⟩
  | .hbm, ⟨15, _⟩ => ⟨S4608x56x64, .f32⟩
  | .hbm, ⟨16, _⟩ => ⟨S4608x56x64, .f32⟩
  | .hbm, ⟨17, _⟩ => ⟨S4608x56x64, .f32⟩
  | .hbm, ⟨18, _⟩ => ⟨S4608x56x64, .f32⟩
  | .hbm, ⟨19, _⟩ => ⟨S4608x56x64, .bf16⟩
  | .hbm, ⟨20, _⟩ => ⟨S_, .i32⟩
  | .hbm, ⟨21, _⟩ => ⟨S4608x56x64, .i32⟩
  | .hbm, ⟨22, _⟩ => ⟨S4608x56x64, .i32⟩
  | .hbm, ⟨23, _⟩ => ⟨S4608x56x64, .f32⟩
  | .hbm, ⟨24, _⟩ => ⟨S_, .f32⟩
  | .hbm, ⟨25, _⟩ => ⟨S4608x56x64, .f32⟩
  | .hbm, ⟨26, _⟩ => ⟨S4608x56x64, .f32⟩
  | .hbm, ⟨27, _⟩ => ⟨S4608x56x64, .f32⟩
  | .hbm, ⟨28, _⟩ => ⟨S4608x56x64, .f32⟩
  | .hbm, ⟨29, _⟩ => ⟨S4608x56x64, .bf16⟩
  | .hbm, ⟨30, _⟩ => ⟨S128x1x56x2x64, .bf16⟩
  | .hbm, ⟨31, _⟩ => ⟨S128x1x56x1x64, .bf16⟩
  | .hbm, ⟨32, _⟩ => ⟨S128x1x56x64, .bf16⟩
  | .hbm, ⟨33, _⟩ => ⟨S128x1x4608, .f32⟩
  | .hbm, ⟨34, _⟩ => ⟨S128x1x56x1x64, .bf16⟩
  | .hbm, ⟨35, _⟩ => ⟨S128x1x56x64, .bf16⟩
  | .hbm, ⟨36, _⟩ => ⟨S128x1x4608, .f32⟩
  | .hbm, ⟨37, _⟩ => ⟨S128x1x4608, .f32⟩
  | .hbm, ⟨38, _⟩ => ⟨S4608x3584, .i32⟩
  | .hbm, ⟨39, _⟩ => ⟨S4608x56x64, .i32⟩
  | .hbm, ⟨40, _⟩ => ⟨S4608x56x1, .f32⟩
  | .hbm, ⟨41, _⟩ => ⟨S_, .i32⟩
  | .hbm, ⟨42, _⟩ => ⟨S4608x56x64, .i32⟩
  | .hbm, ⟨43, _⟩ => ⟨S4608x56x64, .i32⟩
  | .hbm, ⟨44, _⟩ => ⟨S4608x56x64, .f32⟩
  | .hbm, ⟨45, _⟩ => ⟨S_, .f32⟩
  | .hbm, ⟨46, _⟩ => ⟨S4608x56x64, .f32⟩
  | .hbm, ⟨47, _⟩ => ⟨S4608x56x64, .f32⟩
  | .hbm, ⟨48, _⟩ => ⟨S4608x56x64, .f32⟩
  | .hbm, ⟨49, _⟩ => ⟨S4608x56x64, .f32⟩
  | .hbm, ⟨50, _⟩ => ⟨S4608x56x64, .bf16⟩
  | .hbm, ⟨51, _⟩ => ⟨S_, .i32⟩
  | .hbm, ⟨52, _⟩ => ⟨S4608x56x64, .i32⟩
  | .hbm, ⟨53, _⟩ => ⟨S4608x56x64, .i32⟩
  | .hbm, ⟨54, _⟩ => ⟨S4608x56x64, .f32⟩
  | .hbm, ⟨55, _⟩ => ⟨S_, .f32⟩
  | .hbm, ⟨56, _⟩ => ⟨S4608x56x64, .f32⟩
  | .hbm, ⟨57, _⟩ => ⟨S4608x56x64, .f32⟩
  | .hbm, ⟨58, _⟩ => ⟨S4608x56x64, .f32⟩
  | .hbm, ⟨59, _⟩ => ⟨S4608x56x64, .f32⟩
  | .hbm, ⟨60, _⟩ => ⟨S4608x56x64, .bf16⟩
  | .hbm, ⟨61, _⟩ => ⟨S128x1x56x2x64, .bf16⟩
  | .hbm, ⟨62, _⟩ => ⟨S128x1x56x1x64, .bf16⟩
  | .hbm, ⟨63, _⟩ => ⟨S128x1x56x64, .bf16⟩
  | .hbm, ⟨64, _⟩ => ⟨S128x1x4608, .f32⟩
  | .hbm, ⟨65, _⟩ => ⟨S128x1x56x1x64, .bf16⟩
  | .hbm, ⟨66, _⟩ => ⟨S128x1x56x64, .bf16⟩
  | .hbm, ⟨67, _⟩ => ⟨S128x1x4608, .f32⟩
  | .hbm, ⟨68, _⟩ => ⟨S128x1x4608, .f32⟩
  | .hbm, ⟨69, _⟩ => ⟨S128x1x4608, .f32⟩
  | .hbm, ⟨70, _⟩ => ⟨S128x1x4608, .f32⟩
  | .hbm, ⟨71, _⟩ => ⟨S_, .f32⟩
  | .hbm, ⟨72, _⟩ => ⟨S128x1x4608, .f32⟩
  | .hbm, ⟨73, _⟩ => ⟨S128x1x4608, .f32⟩
  | .hbm, ⟨74, _⟩ => ⟨S_, .f32⟩
  | .hbm, ⟨75, _⟩ => ⟨S128x1x4608, .f32⟩
  | .hbm, ⟨76, _⟩ => ⟨S128x1x4608, .f32⟩
  | .hbm, ⟨77, _⟩ => ⟨S128x1x4608, .f32⟩
  | .hbm, ⟨78, _⟩ => ⟨S128x1x4608, .f32⟩
  | .hbm, ⟨79, _⟩ => ⟨S128x1x4608, .bf16⟩
  | .hbm, ⟨80, _⟩ => ⟨S7168x2304, .i32⟩
  | .hbm, ⟨81, _⟩ => ⟨S7168x36x64, .i32⟩
  | .hbm, ⟨82, _⟩ => ⟨S7168x36x1, .f32⟩
  | .hbm, ⟨83, _⟩ => ⟨S_, .i32⟩
  | .hbm, ⟨84, _⟩ => ⟨S7168x36x64, .i32⟩
  | .hbm, ⟨85, _⟩ => ⟨S7168x36x64, .i32⟩
  | .hbm, ⟨86, _⟩ => ⟨S7168x36x64, .f32⟩
  | .hbm, ⟨87, _⟩ => ⟨S_, .f32⟩
  | .hbm, ⟨88, _⟩ => ⟨S7168x36x64, .f32⟩
  | .hbm, ⟨89, _⟩ => ⟨S7168x36x64, .f32⟩
  | .hbm, ⟨90, _⟩ => ⟨S7168x36x64, .f32⟩
  | .hbm, ⟨91, _⟩ => ⟨S7168x36x64, .f32⟩
  | .hbm, ⟨92, _⟩ => ⟨S7168x36x64, .bf16⟩
  | .hbm, ⟨93, _⟩ => ⟨S_, .i32⟩
  | .hbm, ⟨94, _⟩ => ⟨S7168x36x64, .i32⟩
  | .hbm, ⟨95, _⟩ => ⟨S7168x36x64, .i32⟩
  | .hbm, ⟨96, _⟩ => ⟨S7168x36x64, .f32⟩
  | .hbm, ⟨97, _⟩ => ⟨S_, .f32⟩
  | .hbm, ⟨98, _⟩ => ⟨S7168x36x64, .f32⟩
  | .hbm, ⟨99, _⟩ => ⟨S7168x36x64, .f32⟩
  | .hbm, ⟨100, _⟩ => ⟨S7168x36x64, .f32⟩
  | .hbm, ⟨101, _⟩ => ⟨S7168x36x64, .f32⟩
  | .hbm, ⟨102, _⟩ => ⟨S7168x36x64, .bf16⟩
  | .hbm, ⟨103, _⟩ => ⟨S128x1x36x2x64, .bf16⟩
  | .hbm, ⟨104, _⟩ => ⟨S128x1x36x1x64, .bf16⟩
  | .hbm, ⟨105, _⟩ => ⟨S128x1x36x64, .bf16⟩
  | .hbm, ⟨106, _⟩ => ⟨S128x1x7168, .f32⟩
  | .hbm, ⟨107, _⟩ => ⟨S128x1x36x1x64, .bf16⟩
  | .hbm, ⟨108, _⟩ => ⟨S128x1x36x64, .bf16⟩
  | .hbm, ⟨109, _⟩ => ⟨S128x1x7168, .f32⟩
  | .hbm, ⟨110, _⟩ => ⟨S128x1x7168, .f32⟩
  | .hbm, ⟨111, _⟩ => ⟨S128x1x7168, .bf16⟩
  | .hbm, ⟨112, _⟩ => ⟨S128x7168, .bf16⟩
  | _, _ => ⟨S128x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_6 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_7 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_8 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_9 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Proof.KernelBase.lean ====
/- Hand-written, untrusted: what the frame of the kernel, at any float values, is stated over: the frame claim's post from a run
   that names nothing of the output, the two branch conditions over the grid, the windows' staging memrefs, and the scratch
   operand as a memref. Adapted from the generated frame of a kernel whose output nothing reads. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 4 rfl).trans ((hA c 4).trans (V_main_arg3 m c)),
      ((h c).2 main_arg4 (Pipeline.mem_restRefs_of main_arg4 (by decide) (by decide))).trans (V_main_arg4 m c),
      (Pipeline.RDat.FramePost.arr_in h c 7 rfl).trans ((hA c 7).trans (V_main_arg5 m c)),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 18 — decided over the grid. -/
theorem hcond0_0 : ∀ t : Fin cfg0.N, cond0_0 (grid0.coords t) ↔ t.val < 18 :=
  (by decide +kernel : ∀ t : Fin grid0.N, cond0_0 (grid0.coords t) ↔ t.val < 18)

/-- The condition of the body's `scf.if` 1 (`k0_h2`), from the grid coordinates (the skeleton's scalar
    chain substituted). -/
abbrev cond0_1 (i : grid0.Coords) : Prop := k0_cond2 i = 1#1
/-- It holds at the points from point 18 on — decided over the grid. -/
theorem hcond0_1 : ∀ t : Fin cfg0.N, cond0_1 (grid0.coords t) ↔ 18 ≤ t.val :=
  (by decide +kernel : ∀ t : Fin grid0.N, cond0_1 (grid0.coords t) ↔ 18 ≤ t.val)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3584 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S56x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S56x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S56x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S56x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2304 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S36x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S36x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x512 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x4608 .bf16 := Memref.whole cc0_scratch0

/-- The frame kit's invariant with the scratch operands as memrefs owned at some contents (by
    `scopedRest0_eq` and `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KernelRunA.lean ====
/- Hand-written, untrusted: the run of the kernel's body at a point of the first phase, naming nothing of what it leaves. -/
module

public import proofs.«01_k».proof.Proof.KernelBase

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1840000 in
/-- The body's triple IN THE FIRST PHASE (`scf.if` 0 taken, `scf.if` 1 not taken: points 0, 1, … 17: 18 of 32): on whole staging memrefs — the inputs' at their contents,
    the FORGOTTEN outputs' (10) at anything, handed back at some contents nothing names —
    the body runs to the continuation holding the inputs' as they were, the scratch at some contents. -/
theorem kernelRun0_A (c : Dev nD) (i : grid0.Coords) (arg1 : Memref sig .tc .vmem S128x7168 .bf16) (harg1 : arg1.IsWhole) (arg2 : Memref sig .tc .vmem S256x3584 .i8) (harg2 : arg2.IsWhole) (arg3 : Memref sig .tc .vmem S56x256 .f32) (harg3 : arg3.IsWhole) (arg4 : Memref sig .tc .vmem S56x256 .f32) (harg4 : arg4.IsWhole) (arg5 : Memref sig .tc .vmem S256x3584 .i8) (harg5 : arg5.IsWhole) (arg6 : Memref sig .tc .vmem S56x256 .f32) (harg6 : arg6.IsWhole) (arg7 : Memref sig .tc .vmem S56x256 .f32) (harg7 : arg7.IsWhole) (arg8 : Memref sig .tc .vmem S512x2304 .i8) (harg8 : arg8.IsWhole) (arg9 : Memref sig .tc .vmem S36x512 .f32) (harg9 : arg9.IsWhole) (arg10 : Memref sig .tc .vmem S36x512 .f32) (harg10 : arg10.IsWhole) (arg11 : Memref sig .tc .vmem S128x512 .bf16) (harg11 : arg11.IsWhole) (arg12 : Memref sig .tc .vmem S128x4608 .bf16) (harg12 : arg12.IsWhole) (hc0 : cond0_0 i) (hc1 : ¬cond0_1 i)
    (x0 : Vec F S128x7168 .bf16) (x1 : Vec F S256x3584 .i8) (x2 : Vec F S56x256 .f32) (x3 : Vec F S56x256 .f32) (x4 : Vec F S256x3584 .i8) (x5 : Vec F S56x256 .f32) (x6 : Vec F S56x256 .f32) (x7 : Vec F S512x2304 .i8) (x8 : Vec F S36x512 .f32) (x9 : Vec F S36x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_q4 i arg1 harg1 arg2 harg2 arg3 harg3 arg4 harg4 arg5 harg5 arg6 harg6 arg7 harg7 arg8 harg8 arg9 harg9 arg10 harg10 arg11 harg11 arg12 harg12) K := by
    intro E K
    simp only [cc0_swiglu_q4_eq_skeleton]; unfold cc0_swiglu_q4_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    iexists _, _; isplitr; swap; · iexact HS0
    ipureintro; rfl

end Cert.Kernel.Hand

end
-- ==== Proof.KernelRunB.lean ====
/- Hand-written, untrusted: the run of the kernel's body at a point of the second phase, naming nothing of what it leaves. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1200000 in
/-- The body's triple IN THE SECOND PHASE (`scf.if` 0 not taken, `scf.if` 1 taken: points 18, 19, … 31: 14 of 32): on whole staging memrefs — the inputs' at their contents,
    the FORGOTTEN outputs' (10) at anything, handed back at some contents nothing names —
    the body runs to the continuation holding the inputs' as they were, the scratch at some contents. -/
theorem kernelRun0_B (c : Dev nD) (i : grid0.Coords) (arg1 : Memref sig .tc .vmem S128x7168 .bf16) (harg1 : arg1.IsWhole) (arg2 : Memref sig .tc .vmem S256x3584 .i8) (harg2 : arg2.IsWhole) (arg3 : Memref sig .tc .vmem S56x256 .f32) (harg3 : arg3.IsWhole) (arg4 : Memref sig .tc .vmem S56x256 .f32) (harg4 : arg4.IsWhole) (arg5 : Memref sig .tc .vmem S256x3584 .i8) (harg5 : arg5.IsWhole) (arg6 : Memref sig .tc .vmem S56x256 .f32) (harg6 : arg6.IsWhole) (arg7 : Memref sig .tc .vmem S56x256 .f32) (harg7 : arg7.IsWhole) (arg8 : Memref sig .tc .vmem S512x2304 .i8) (harg8 : arg8.IsWhole) (arg9 : Memref sig .tc .vmem S36x512 .f32) (harg9 : arg9.IsWhole) (arg10 : Memref sig .tc .vmem S36x512 .f32) (harg10 : arg10.IsWhole) (arg11 : Memref sig .tc .vmem S128x512 .bf16) (harg11 : arg11.IsWhole) (arg12 : Memref sig .tc .vmem S128x4608 .bf16) (harg12 : arg12.IsWhole) (hc0 : ¬cond0_0 i) (hc1 : cond0_1 i)
    (x0 : Vec F S128x7168 .bf16) (x1 : Vec F S256x3584 .i8) (x2 : Vec F S56x256 .f32) (x3 : Vec F S56x256 .f32) (x4 : Vec F S256x3584 .i8) (x5 : Vec F S56x256 .f32) (x6 : Vec F S56x256 .f32) (x7 : Vec F S512x2304 .i8) (x8 : Vec F S36x512 .f32) (x9 : Vec F S36x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_q4 i arg1 harg1 arg2 harg2 arg3 harg3 arg4 harg4 arg5 harg5 arg6 harg6 arg7 harg7 arg8 harg8 arg9 harg9 arg10 harg10 arg11 harg11 arg12 harg12) K := by
    intro E K
    simp only [cc0_swiglu_q4_eq_skeleton]; unfold cc0_swiglu_q4_skel
    simp only [k0_part109_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    iexists _, _; isplitr; swap; · iexact HS0
    ipureintro; rfl

end Cert.Kernel.Hand

end
-- ==== Proof.KernelFrame.lean ====
/- Hand-written, untrusted: the frame of the kernel, at any float values: it terminates, its arguments end unchanged and every
   semaphore counter ends at zero. Nothing is named of what the output window or the scratch holds, which the frame does not
   need; the run that names them is the idealized kernel's (Vals.lean). -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows whose contents the proof does not name (10): nothing reads what the kernel leaves in them, so nothing
    of it is named (Lib/Pipeline/Dat.lean `Dat.toRForget`). -/
def forgets0 : Fin 11 → Bool := fun w => w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d))

set_option maxHeartbeats 2400000 in
/-- The body at any point: the inputs' memrefs hold their blocks (`before0_0` to `before0_9`), the branch conditions' closed
    forms say which phase the point is in, and that phase's run applies. The scratch is handed over, and taken back, at some
    contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 32 := lt_of_lt_of_eq t.isLt (show cfg0.N = 32 from N_0)
  by_cases h0 : t.val < 18
  · by_cases h1 : 18 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      iintro ⟨H0, H1, H2, H3, H4, H5, H6, H7, H8, H9, H10, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · by_cases h1 : 18 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      iintro ⟨H0, H1, H2, H3, H4, H5, H6, H7, H8, H9, H10, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forget m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand

end
-- ==== Proof.Base.lean ====
/- Hand-written, untrusted: what the run of the idealized kernel's body is stated over — the two branch conditions over the
   grid, the windows' staging memrefs, and the scratch operand as a memref. -/
module

public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 18 — decided over the grid. -/
theorem hcond0_0 : ∀ t : Fin cfg0.N, cond0_0 (grid0.coords t) ↔ t.val < 18 :=
  (by decide +kernel : ∀ t : Fin grid0.N, cond0_0 (grid0.coords t) ↔ t.val < 18)

/-- The condition of the body's `scf.if` 1 (`k0_h2`), from the grid coordinates (the skeleton's scalar
    chain substituted). -/
abbrev cond0_1 (i : grid0.Coords) : Prop := k0_cond2 i = 1#1
/-- It holds at the points from point 18 on — decided over the grid. -/
theorem hcond0_1 : ∀ t : Fin cfg0.N, cond0_1 (grid0.coords t) ↔ 18 ≤ t.val :=
  (by decide +kernel : ∀ t : Fin grid0.N, cond0_1 (grid0.coords t) ↔ 18 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3584 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S56x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S56x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S56x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S56x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2304 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S36x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S36x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x512 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x4608 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.Tile.lean ====
/- Hand-written, untrusted: the values the kernel's body computes, named. One tile of weights from a slab of packed bytes and
   four rows of scales; one accumulation step over 256 columns; the 28 steps of a gate or up tile and the 18 of a down tile;
   the hidden tile a point of the first phase stores and the two output tiles a point of the second phase stores. -/
module

public import proofs.«01_k».proof.Proof.Gen.KernelIdeal.Skeleton
public import Idealize.ShloMosaic.Lib.VecWindow
public import Idealize.ShloMosaic.Lib.Pointwise.Index

@[expose] public section

set_option synthInstance.maxSize 4096

noncomputable section

namespace Cert.KernelIdeal.Hand

open Cert.KernelIdeal.Gen
open Idealize.ShloMosaic Idealize.SL.Sem

variable {F : FTy → Type} [FloatOps F]

/-- The 256 × 256 four-bit numbers of a slab of packed bytes, as bf16: row `r` is the `r`-th number along the bytes. -/
def nibs (q : Vec F S256x128 .i8) : FVec F S256x256 .bf16 := k0_pay7 q

/-- A row of scales over 128 rows, cast to bf16. -/
def scaleRows (a : Vec F S1x256 .f32) : FVec F S128x256 .bf16 :=
  truncf .bf16 (broadcastTo S128x256 (shapeCast S1x256 (shapeCast S1x256 a shapeCasts_S1x256_S1x256) shapeCasts_S1x256_S1x256) broadcasts_S1x256_S128x256) bitsLt_bf16_f32

/-- 128 rows of weights: the numbers times the scale's first part plus the numbers times its second part. -/
def scaled (w : FVec F S128x256 .bf16) (a b : Vec F S1x256 .f32) : FVec F S128x256 .bf16 :=
  addf (mulf w (scaleRows a)) (mulf w (scaleRows b))

/-- A tile of 256 × 256 weights: two groups of 128 rows, each under its own scales. -/
def wtile (q : Vec F S256x128 .i8) (a0 b0 a1 b1 : Vec F S1x256 .f32) : FVec F S256x256 .bf16 :=
  concatenate S256x256 0
    [⟨S128x256, scaled (extractStridedSlice S128x256 ![0, 0] (nibs q) slices_S256x256_o0_0_S128x256) a0 b0⟩,
     ⟨S128x256, scaled (extractStridedSlice S128x256 ![128, 0] (nibs q) slices_S256x256_o128_0_S128x256) a1 b1⟩]
    concatenates_S128x256_S128x256_S256x256_d0

/-- One accumulation step. -/
def step (acc : FVec F S128x256 .f32) (x : FVec F S128x256 .bf16) (w : FVec F S256x256 .bf16) : FVec F S128x256 .f32 :=
  addf acc (matmul dot_S128x256_S256x256_S128x256_1_0_0_1_n_n none x w (constant S128x256 .f32 0x00000000#32))

/-- The accumulator's start. -/
def zero : FVec F S128x256 .f32 := broadcast S128x256 (Scalar.ofBits .f32 0x00000000#32 : F .f32)

theorem inbX (k : Fin 28) : ∀ a, (![0, 256 * k.val] : Fin 2 → ℕ) a + S128x256.size a ≤ S128x7168.size a := by
  intro a; fin_cases a
  · show 0 + 128 ≤ 128; omega
  · show 256 * k.val + 256 ≤ 7168; omega

theorem inbQ (k : Fin 28) : ∀ a, (![0, 128 * k.val] : Fin 2 → ℕ) a + S256x128.size a ≤ S256x3584.size a := by
  intro a; fin_cases a
  · show 0 + 256 ≤ 256; omega
  · show 128 * k.val + 128 ≤ 3584; omega

theorem inbS (k : Fin 28) (g : Fin 2) : ∀ a, (![2 * k.val + g.val, 0] : Fin 2 → ℕ) a + S1x256.size a ≤ S56x256.size a := by
  intro a; fin_cases a
  · show 2 * k.val + g.val + 1 ≤ 56; omega
  · show 0 + 256 ≤ 256; omega

theorem inbH (k : Fin 18) : ∀ a, (![0, 256 * k.val] : Fin 2 → ℕ) a + S128x256.size a ≤ S128x4608.size a := by
  intro a; fin_cases a
  · show 0 + 128 ≤ 128; omega
  · show 256 * k.val + 256 ≤ 4608; omega

theorem inbDQ (p : Fin 2) (k : Fin 18) : ∀ a, (![256 * p.val, 128 * k.val] : Fin 2 → ℕ) a + S256x128.size a ≤ S512x2304.size a := by
  intro a; fin_cases a
  · show 256 * p.val + 256 ≤ 512; omega
  · show 128 * k.val + 128 ≤ 2304; omega

theorem inbDS (p : Fin 2) (k : Fin 18) (g : Fin 2) : ∀ a, (![2 * k.val + g.val, 256 * p.val] : Fin 2 → ℕ) a + S1x256.size a ≤ S36x512.size a := by
  intro a; fin_cases a
  · show 2 * k.val + g.val + 1 ≤ 36; omega
  · show 256 * p.val + 256 ≤ 512; omega

/-- The weights of step `k` of a gate or up tile. -/
def upW (q : Vec F S256x3584 .i8) (a b : Vec F S56x256 .f32) (k : Fin 28) : FVec F S256x256 .bf16 :=
  wtile (View.ld q (Rect.unit (s := S256x3584) ![0, 128 * k.val] S256x128.size (inbQ k)))
    (View.ld a (Rect.unit (s := S56x256) ![2 * k.val + (0 : Fin 2).val, 0] S1x256.size (inbS k 0)))
    (View.ld b (Rect.unit (s := S56x256) ![2 * k.val + (0 : Fin 2).val, 0] S1x256.size (inbS k 0)))
    (View.ld a (Rect.unit (s := S56x256) ![2 * k.val + (1 : Fin 2).val, 0] S1x256.size (inbS k 1)))
    (View.ld b (Rect.unit (s := S56x256) ![2 * k.val + (1 : Fin 2).val, 0] S1x256.size (inbS k 1)))

/-- Step `k` of a gate or up tile. -/
def upStep (x : Vec F S128x7168 .bf16) (q : Vec F S256x3584 .i8) (a b : Vec F S56x256 .f32) (k : Fin 28) (acc : FVec F S128x256 .f32) : FVec F S128x256 .f32 :=
  step acc (shapeCast S128x256 (View.ld x (Rect.unit (s := S128x7168) ![0, 256 * k.val] S128x256.size (inbX k)) : Vec F S128x256 .bf16) shapeCasts_S128x256_S128x256)
    (upW q a b k)

/-- The weights of step `k` of down tile `p`. -/
def dnW (q : Vec F S512x2304 .i8) (a b : Vec F S36x512 .f32) (p : Fin 2) (k : Fin 18) : FVec F S256x256 .bf16 :=
  wtile (View.ld q (Rect.unit (s := S512x2304) ![256 * p.val, 128 * k.val] S256x128.size (inbDQ p k)))
    (View.ld a (Rect.unit (s := S36x512) ![2 * k.val + (0 : Fin 2).val, 256 * p.val] S1x256.size (inbDS p k 0)))
    (View.ld b (Rect.unit (s := S36x512) ![2 * k.val + (0 : Fin 2).val, 256 * p.val] S1x256.size (inbDS p k 0)))
    (View.ld a (Rect.unit (s := S36x512) ![2 * k.val + (1 : Fin 2).val, 256 * p.val] S1x256.size (inbDS p k 1)))
    (View.ld b (Rect.unit (s := S36x512) ![2 * k.val + (1 : Fin 2).val, 256 * p.val] S1x256.size (inbDS p k 1)))

/-- Step `k` of down tile `p`. -/
def dnStep (h : Vec F S128x4608 .bf16) (q : Vec F S512x2304 .i8) (a b : Vec F S36x512 .f32) (p : Fin 2) (k : Fin 18) (acc : FVec F S128x256 .f32) : FVec F S128x256 .f32 :=
  step acc (View.ld h (Rect.unit (s := S128x4608) ![0, 256 * k.val] S128x256.size (inbH k))) (dnW q a b p k)

/-- Twenty-eight steps, first to last. -/
def chain28 {α : Type} (f : Fin 28 → α → α) (z : α) : α :=
  f 27 (f 26 (f 25 (f 24 (f 23 (f 22 (f 21 (f 20 (f 19 (f 18 (f 17 (f 16 (f 15 (f 14 (f 13 (f 12 (f 11 (f 10 (f 9 (f 8 (f 7 (f 6 (f 5 (f 4 (f 3 (f 2 (f 1 (f 0 z)))))))))))))))))))))))))))

/-- Eighteen steps, first to last. -/
def chain18 {α : Type} (f : Fin 18 → α → α) (z : α) : α :=
  f 17 (f 16 (f 15 (f 14 (f 13 (f 12 (f 11 (f 10 (f 9 (f 8 (f 7 (f 6 (f 5 (f 4 (f 3 (f 2 (f 1 (f 0 z)))))))))))))))))

/-- A gate or up tile. -/
def upTile (x : Vec F S128x7168 .bf16) (q : Vec F S256x3584 .i8) (a b : Vec F S56x256 .f32) : FVec F S128x256 .f32 :=
  chain28 (upStep x q a b) zero

/-- A down tile. -/
def dnTile (h : Vec F S128x4608 .bf16) (q : Vec F S512x2304 .i8) (a b : Vec F S36x512 .f32) (p : Fin 2) : FVec F S128x256 .f32 :=
  chain18 (dnStep h q a b p) zero

/-- The permutation of a group's 128 columns, as gather indices. -/
def perm : IVec S128x128 32 :=
  shapeCast S128x128 (k0_pay245 : IVec S128x128x1 32) shapeCasts_S128x128x1_S128x128

/-- The hidden tile in the kernel's own rounding and column order, from the gate and the up tile. -/
def hidden (g u : FVec F S128x256 .f32) : FVec F S128x256 .bf16 :=
  truncf .bf16 (mulf (mulf g (logistic g)) u) bitsLt_bf16_f32

/-- Each group's columns permuted. -/
def permute (h : FVec F S128x256 .bf16) : FVec F S128x256 .bf16 :=
  have w : FVec F S128x256 .f32 := extf .f32 h bitsLt_bf16_f32
  shapeCast S128x256 (truncf .bf16 (concatenate S128x256 1
    [⟨S128x128, dynamicGather 1 (extractStridedSlice S128x128 ![0, 0] w slices_S128x256_o0_0_S128x128) perm⟩,
     ⟨S128x128, dynamicGather 1 (extractStridedSlice S128x128 ![0, 128] w slices_S128x256_o0_128_S128x128) perm⟩]
    concatenates_S128x128_S128x128_S128x256_d1) bitsLt_bf16_f32) shapeCasts_S128x256_S128x256

/-- What a point of the first phase stores: 256 columns of the hidden activations. -/
def hblk (x : Vec F S128x7168 .bf16) (gq : Vec F S256x3584 .i8) (ga gb : Vec F S56x256 .f32) (uq : Vec F S256x3584 .i8) (ua ub : Vec F S56x256 .f32) : FVec F S128x256 .bf16 :=
  permute (hidden (upTile x gq ga gb) (upTile x uq ua ub))

/-- What a point of the second phase stores into its output tile `p`. -/
def yblk (h : Vec F S128x4608 .bf16) (q : Vec F S512x2304 .i8) (a b : Vec F S36x512 .f32) (p : Fin 2) : FVec F S128x256 .bf16 :=
  truncf .bf16 (dnTile h q a b p) bitsLt_bf16_f32

/-- Two tiles side by side. -/
def beside (w0 w1 : Vec F S128x256 .bf16) : Vec F S128x512 .bf16 := fun j =>
  if h : (j 1).val < 256 then w0 (ix2 ⟨(j 0).val, (j 0).isLt⟩ ⟨(j 1).val, h⟩)
  else w1 (ix2 ⟨(j 0).val, (j 0).isLt⟩ ⟨(j 1).val - 256, by have := (j 1).isLt; change (j 1).val < 512 at this; omega⟩)

/-- What a point of the second phase leaves in its output block. -/
def yout (h : Vec F S128x4608 .bf16) (q : Vec F S512x2304 .i8) (a b : Vec F S36x512 .f32) : Vec F S128x512 .bf16 :=
  beside (yblk h q a b 0) (yblk h q a b 1)

theorem put_beside (y : Vec F S128x512 .bf16) (w0 w1 : Vec F S128x256 .bf16) :
    VecWindow.put (s := S128x512) (VecWindow.put (s := S128x512) y ![0, 0] S128x256.size w0) ![0, 256] S128x256.size w1 = beside w0 w1 := by
  funext j
  have h0 : (j 0).val < 128 := (j 0).isLt
  have h1 : (j 1).val < 512 := (j 1).isLt
  by_cases h : (j 1).val < 256
  · have hn : ¬ ∀ a, (![0, 256] : Fin 2 → ℕ) a ≤ (j a).val ∧ (j a).val < (![0, 256] : Fin 2 → ℕ) a + S128x256.size a := fun hh => by
      have := (hh 1).1; change 256 ≤ (j 1).val at this; omega
    have hp : ∀ a, (![0, 0] : Fin 2 → ℕ) a ≤ (j a).val ∧ (j a).val < (![0, 0] : Fin 2 → ℕ) a + S128x256.size a := fun a => by
      fin_cases a
      · exact ⟨Nat.zero_le _, by show (j 0).val < 0 + 128; omega⟩
      · exact ⟨Nat.zero_le _, by show (j 1).val < 0 + 256; omega⟩
    rw [VecWindow.put, dif_neg hn, VecWindow.put, dif_pos hp, beside, dif_pos h]
    congr 1; funext a; fin_cases a <;> rfl
  · have hp : ∀ a, (![0, 256] : Fin 2 → ℕ) a ≤ (j a).val ∧ (j a).val < (![0, 256] : Fin 2 → ℕ) a + S128x256.size a := fun a => by
      fin_cases a
      · exact ⟨Nat.zero_le _, by show (j 0).val < 0 + 128; omega⟩
      · exact ⟨by show 256 ≤ (j 1).val; omega, by show (j 1).val < 256 + 256; omega⟩
    rw [VecWindow.put, dif_pos hp, beside, dif_neg h]
    congr 1; funext a; fin_cases a <;> rfl

end Cert.KernelIdeal.Hand

end
-- ==== Proof.RunA.lean ====
/- Hand-written, untrusted: the run of the body at a point of the first phase. -/
module

public import proofs.«01_k».proof.Proof.Base
public import proofs.«01_k».proof.Proof.Tile

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1840000 in
/-- The body's triple IN CASE A (`scf.if` 0 taken, `scf.if` 1 not taken: points 0, 1, … 17: 18 of 32): on whole staging memrefs — the inputs' at their contents,
    the FORGOTTEN outputs' (10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S128x7168 .bf16) (harg1 : arg1.IsWhole) (arg2 : Memref sig .tc .vmem S256x3584 .i8) (harg2 : arg2.IsWhole) (arg3 : Memref sig .tc .vmem S56x256 .f32) (harg3 : arg3.IsWhole) (arg4 : Memref sig .tc .vmem S56x256 .f32) (harg4 : arg4.IsWhole) (arg5 : Memref sig .tc .vmem S256x3584 .i8) (harg5 : arg5.IsWhole) (arg6 : Memref sig .tc .vmem S56x256 .f32) (harg6 : arg6.IsWhole) (arg7 : Memref sig .tc .vmem S56x256 .f32) (harg7 : arg7.IsWhole) (arg8 : Memref sig .tc .vmem S512x2304 .i8) (harg8 : arg8.IsWhole) (arg9 : Memref sig .tc .vmem S36x512 .f32) (harg9 : arg9.IsWhole) (arg10 : Memref sig .tc .vmem S36x512 .f32) (harg10 : arg10.IsWhole) (arg11 : Memref sig .tc .vmem S128x512 .bf16) (harg11 : arg11.IsWhole) (arg12 : Memref sig .tc .vmem S128x4608 .bf16) (harg12 : arg12.IsWhole) (hc0 : cond0_0 i) (hc1 : ¬cond0_1 i)
    (x0 : Vec F S128x7168 .bf16) (x1 : Vec F S256x3584 .i8) (x2 : Vec F S56x256 .f32) (x3 : Vec F S56x256 .f32) (x4 : Vec F S256x3584 .i8) (x5 : Vec F S56x256 .f32) (x6 : Vec F S56x256 .f32) (x7 : Vec F S512x2304 .i8) (x8 : Vec F S36x512 .f32) (x9 : Vec F S36x512 .f32) (y : Vec F S128x512 .bf16) (ds : Vec F S128x4608 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y ∗ owns (c : Thread nD τ) arg12 fullShare ds
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y ∗ owns (c : Thread nD τ) arg12 fullShare (VecWindow.put (s := S128x4608) ds (k0_off1 i) S128x256.size (hblk x0 x1 x2 x3 x4 x5 x6))) -∗ K ⟨⟩))
          ⊢ wp frame (wpE (defs₀ (F := F)) Variants.none c none) E (cc0_swiglu_q4 i arg1 harg1 arg2 harg2 arg3 harg3 arg4 harg4 arg5 harg5 arg6 harg6 arg7 harg7 arg8 harg8 arg9 harg9 arg10 harg10 arg11 harg11 arg12 harg12) K := by
    intro E K
    simp only [cc0_swiglu_q4_eq_skeleton]; unfold cc0_swiglu_q4_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; isplitr; swap; · iexact HS0
    ipureintro
    refine (View.read_writes_cons_put _ _ _ _ _ rfl).trans ?_
    refine congrArg₂ (fun d w => VecWindow.put (s := S128x4608) d (k0_off1 i) S128x256.size w) hfs0 ?_
    sl_unfold_words
    simp only [View.readAt_eq_ld, hf0, hf1, hf2, hf3, hf4, hf5, hf6]
    rfl

end Cert.KernelIdeal.Hand

end
-- ==== Proof.RunB.lean ====
/- Hand-written, untrusted: the run of the body at a point of the second phase. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1200000 in
/-- The body's triple IN CASE B (`scf.if` 0 not taken, `scf.if` 1 taken: points 18, 19, … 31: 14 of 32): on whole staging memrefs — the inputs' at their contents,
    the FORGOTTEN outputs' (10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S128x7168 .bf16) (harg1 : arg1.IsWhole) (arg2 : Memref sig .tc .vmem S256x3584 .i8) (harg2 : arg2.IsWhole) (arg3 : Memref sig .tc .vmem S56x256 .f32) (harg3 : arg3.IsWhole) (arg4 : Memref sig .tc .vmem S56x256 .f32) (harg4 : arg4.IsWhole) (arg5 : Memref sig .tc .vmem S256x3584 .i8) (harg5 : arg5.IsWhole) (arg6 : Memref sig .tc .vmem S56x256 .f32) (harg6 : arg6.IsWhole) (arg7 : Memref sig .tc .vmem S56x256 .f32) (harg7 : arg7.IsWhole) (arg8 : Memref sig .tc .vmem S512x2304 .i8) (harg8 : arg8.IsWhole) (arg9 : Memref sig .tc .vmem S36x512 .f32) (harg9 : arg9.IsWhole) (arg10 : Memref sig .tc .vmem S36x512 .f32) (harg10 : arg10.IsWhole) (arg11 : Memref sig .tc .vmem S128x512 .bf16) (harg11 : arg11.IsWhole) (arg12 : Memref sig .tc .vmem S128x4608 .bf16) (harg12 : arg12.IsWhole) (hc0 : ¬cond0_0 i) (hc1 : cond0_1 i)
    (x0 : Vec F S128x7168 .bf16) (x1 : Vec F S256x3584 .i8) (x2 : Vec F S56x256 .f32) (x3 : Vec F S56x256 .f32) (x4 : Vec F S256x3584 .i8) (x5 : Vec F S56x256 .f32) (x6 : Vec F S56x256 .f32) (x7 : Vec F S512x2304 .i8) (x8 : Vec F S36x512 .f32) (x9 : Vec F S36x512 .f32) (y : Vec F S128x512 .bf16) (ds : Vec F S128x4608 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y ∗ owns (c : Thread nD τ) arg12 fullShare ds
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (yout ds x7 x8 x9) ∗ owns (c : Thread nD τ) arg12 fullShare ds) -∗ K ⟨⟩))
          ⊢ wp frame (wpE (defs₀ (F := F)) Variants.none c none) E (cc0_swiglu_q4 i arg1 harg1 arg2 harg2 arg3 harg3 arg4 harg4 arg5 harg5 arg6 harg6 arg7 harg7 arg8 harg8 arg9 harg9 arg10 harg10 arg11 harg11 arg12 harg12) K := by
    intro E K
    simp only [cc0_swiglu_q4_eq_skeleton]; unfold cc0_swiglu_q4_skel
    simp only [k0_part109_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; swap; · iexact H10
      ipureintro
      refine (View.read_writes_cons_put _ _ _ _ _ rfl).trans ?_
      refine (congrArg (fun d => VecWindow.put (s := S128x512) d _ S128x256.size _) ((View.read_writes_cons_put _ _ _ _ _ rfl).trans
        (congrArg (fun d => VecWindow.put (s := S128x512) d _ S128x256.size _) hf10))).trans ?_
      refine (put_beside _ _ _).trans ?_
      refine congrArg₂ beside ?_ ?_
      · sl_unfold_words
        simp only [View.readAt_eq_ld, hf7, hf8, hf9, hfs0]
        rfl
      · sl_unfold_words
        simp only [View.readAt_eq_ld, hf7, hf8, hf9, hfs0]
        rfl
    iexists _; isplitr; swap; · iexact HS0
    ipureintro; exact hfs0

end Cert.KernelIdeal.Hand

end
-- ==== Proof.Vals.lean ====
/- Hand-written, untrusted: the frame and the value run of the idealized kernel. The scratch buffer is tracked point by point: after
   `t` points of the first phase its first `256 * t` columns hold the hidden activations. The output window is idle in the first
   phase; in the second each point leaves its block of the result. -/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

theorem hN0 : cfg0.N = 32 := N_0

/-- The block of hidden activations point `t` computes. -/
def hcol (c : Dev nD) (t : Fin cfg0.N) : Vec F S128x256 .bf16 :=
  hblk (iblk m c 0 t) (iblk m c 1 t) (iblk m c 2 t) (iblk m c 3 t) (iblk m c 4 t) (iblk m c 5 t) (iblk m c 6 t)

/-- The hidden activations, all 4608 columns: column `j` is column `j % 256` of block `j / 256`. -/
def hfull (c : Dev nD) : Vec F S128x4608 .bf16 := fun j =>
  hcol m c ⟨(j 1).val / 256, by have h : (j 1).val < 4608 := (j 1).isLt; rw [hN0]; omega⟩
    (ix2 ⟨(j 0).val, (j 0).isLt⟩ ⟨(j 1).val % 256, Nat.mod_lt _ (by decide)⟩)

/-- What is known of the scratch before point `t`. -/
def Known (c : Dev nD) (t : ℕ) (d : Vec F S128x4608 .bf16) : Prop := ∀ j : S128x4608.Idx, (j 1).val < 256 * t → d j = hfull m c j

theorem known_full (c : Dev nD) (t : ℕ) (ht : 18 ≤ t) (d : Vec F S128x4608 .bf16) : Known m c t d ↔ d = hfull m c :=
  ⟨fun h => funext fun j => h j (by have := (j 1).isLt; change (j 1).val < 4608 at this; omega), fun h j _ => by rw [h]⟩

/-- A point of the first phase extends what is known by its own block. -/
theorem known_put (c : Dev nD) (t : Fin cfg0.N) (ht : t.val < 18) (off : Fin 2 → ℕ) (hoff : off = ![0, 256 * t.val]) (d : Vec F S128x4608 .bf16)
    (h : Known m c t.val d) : Known m c (t.val + 1) (VecWindow.put (s := S128x4608) d off S128x256.size (hcol m c t)) := by
  subst hoff
  intro j hj
  have h0 : (j 0).val < 128 := (j 0).isLt
  by_cases hlt : (j 1).val < 256 * t.val
  · have hn : ¬ ∀ a, (![0, 256 * t.val] : Fin 2 → ℕ) a ≤ (j a).val ∧ (j a).val < (![0, 256 * t.val] : Fin 2 → ℕ) a + S128x256.size a := fun hh => by
      have := (hh 1).1; change 256 * t.val ≤ (j 1).val at this; omega
    rw [VecWindow.put, dif_neg hn]; exact h j hlt
  · have hp : ∀ a, (![0, 256 * t.val] : Fin 2 → ℕ) a ≤ (j a).val ∧ (j a).val < (![0, 256 * t.val] : Fin 2 → ℕ) a + S128x256.size a := fun a => by
      fin_cases a
      · exact ⟨Nat.zero_le _, by show (j 0).val < 0 + 128; omega⟩
      · exact ⟨by show 256 * t.val ≤ (j 1).val; omega, by show (j 1).val < 256 * t.val + 256; omega⟩
    rw [VecWindow.put, dif_pos hp, hfull]
    have e : (⟨(j 1).val / 256, by have h : (j 1).val < 4608 := (j 1).isLt; rw [hN0]; omega⟩ : Fin cfg0.N) = t := Fin.ext (by show (j 1).val / 256 = t.val; omega)
    rw [e]; congr 1; funext a; fin_cases a
    · exact Fin.ext rfl
    · exact Fin.ext (by show (j 1).val - 256 * t.val = (j 1).val % 256; omega)

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => yout (hfull m c) (iblk m c 7 t) (iblk m c 8 t) (iblk m c 9 t)
  Φ t := iprop((∃ d, ⌜Known m c t.val d⌝ ∗ owns (c : Thread nD τ) scM0_0 fullShare d) ∗ (∃ r, prngReg c r))
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_10 (c : Dev nD) (t : Fin cfg0.N) : (dats m 0 c).after 10 t = yout (hfull m c) (iblk m c 7 t) (iblk m c 8 t) (iblk m c 9 t) := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem idle10 (t : Fin cfg0.N) (h : t.val < 18) : cfg0.idle 10 (grid0.coords t) = true :=
  (by decide +kernel : ∀ t : Fin grid0.N, t.val < 18 → idle0 10 (grid0.coords t) = true) t h

theorem live10 (t : Fin cfg0.N) (h : 18 ≤ t.val) : cfg0.idle 10 (grid0.coords t) = false :=
  (by decide +kernel : ∀ t : Fin grid0.N, 18 ≤ t.val → idle0 10 (grid0.coords t) = false) t h

theorem noflush10 (t : Fin cfg0.N) (h : t.val < 18) : (cfg0.win 10).flush t = false :=
  (by decide +kernel : ∀ t : Fin grid0.N, t.val < 18 → win0_10.flush t = false) t h

theorem flush10 (t : Fin cfg0.N) (h : 18 ≤ t.val) : (cfg0.win 10).flush t = true :=
  (by decide +kernel : ∀ t : Fin grid0.N, 18 ≤ t.val → win0_10.flush t = true) t h

theorem off_eq (t : Fin cfg0.N) : k0_off1 (grid0.coords t) = ![0, 256 * t.val] :=
  (k0_off1_eq _).trans ((by decide +kernel : ∀ t : Fin grid0.N, (![0, 256 * (grid0.coords t 0).val] : Fin 2 → ℕ) = ![0, 256 * t.val]) t)

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.castSucc = iprop((∃ d, ⌜Known m c t.val d⌝ ∗ owns (c : Thread nD τ) scM0_0 fullShare d) ∗ (∃ r, prngReg c r)) from rfl,
    show (dats m 0 c).Φ t.succ = iprop((∃ d, ⌜Known m c (t.val + 1) d⌝ ∗ owns (c : Thread nD τ) scM0_0 fullShare d) ∗ (∃ r, prngReg c r)) from rfl]
  have hN : t.val < 32 := lt_of_lt_of_eq t.isLt (show cfg0.N = 32 from N_0)
  by_cases h0 : t.val < 18
  · by_cases h1 : 18 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [(dats m 0 c).leavesExact_idle 10 t (idle10 t h0) (noflush10 t h0)]
      iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ds) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iintro ⟨H0, H1, H2, H3, H4, H5, H6, H7, H8, H9, H10, HS0⟩
      isplitl [HS0 Hg]
      · isplitl [HS0]
        · iexists _; isplitr; swap; · iexact HS0
          ipureintro; exact known_put m c t h0 _ (by rw [off_eq t]) ds hds
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
  · by_cases h1 : 18 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [live10 t h1], after0_10]
      iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      obtain rfl := (known_full m c _ h1 _).mp hds
      iapply ((kernelRun0_B c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) (hfull m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iintro ⟨H0, H1, H2, H3, H4, H5, H6, H7, H8, H9, H10, HS0⟩
      isplitl [HS0 Hg]
      · isplitl [HS0]
        · iexists _; isplitr; swap; · iexact HS0
          ipureintro; exact (known_full m c _ (by omega) _).mpr rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: every array of the pipeline ends at what the proof data say, every other buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = iprop((∃ d, ⌜Known m c 0 d⌝ ∗ owns (c : Thread nD τ) scM0_0 fullShare d) ∗ (∃ r, prngReg c r)) from rfl, PhiA0_eq]
      iintro ⟨⟨%d, H⟩, Hg⟩
      isplitl [H]
      · iexists d; isplitr; · ipureintro; exact fun j hj => absurd hj (by omega)
        iexact H
      iexact Hg)
    (hout := fun c => by
      rw [show (dats m 0 c).Φ (Fin.last cfg0.N) = iprop((∃ d, ⌜Known m c cfg0.N d⌝ ∗ owns (c : Thread nD τ) scM0_0 fullShare d) ∗ (∃ r, prngReg c r)) from rfl, PhiA0_eq]
      iintro ⟨⟨%d, -, H⟩, Hg⟩
      isplitl [H]
      · iexists d; iexact H
      iexact Hg)

theorem run_main : θ_run defs (onTc (τ := τ) (main (F := F))) (s₀ m ρ) (Pipeline.FramePost cfgs (dats m) 0 (V m)) :=
  (θ_run defs _ _).mono (fun _ h => h.1) (run_main_quiescent m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Sums.lean ====
/- Hand-written, untrusted: a quantized linear row as a sum over its packed bytes, and the same sum taken 256 columns at a time in
   the order the bytes hold the columns. No program is mentioned here. -/
module

public import Mathlib.Data.EReal.Operations
public import Mathlib.Algebra.BigOperators.Intervals
public import Mathlib.Tactic.Ring

@[expose] public section

noncomputable section

namespace Cert.Hand

open Finset

/-- The four-bit number a byte holds, less eight: the low one (`p = 0`) or the high one (`p = 1`). -/
def nib (q : BitVec 8) (p : ℕ) : ℝ := ((q.toNat / 16 ^ p % 16 : ℕ) : ℝ) - 8

/-- A row of a quantized linear map over `G` groups of 128 columns: the first 64 columns of a group are the low numbers of
    its 64 bytes, the last 64 columns are the high ones. -/
def qlin (G : ℕ) (x : ℕ → EReal) (q : ℕ → BitVec 8) (s : ℕ → EReal) : EReal :=
  (∑ g ∈ range G, ∑ c ∈ range 64, x (128 * g + c) * ((nib (q (64 * g + c)) 0 : EReal) * s g))
    + ∑ g ∈ range G, ∑ c ∈ range 64, x (128 * g + 64 + c) * ((nib (q (64 * g + c)) 1 : EReal) * s g)

/-- The column the `j`-th number along the bytes belongs to. -/
def col (j : ℕ) : ℕ := 128 * (j / 128) + 64 * (j % 2) + j % 128 / 2

theorem sum_range_mul (f : ℕ → EReal) (a b : ℕ) :
    ∑ i ∈ range (a * b), f i = ∑ i ∈ range a, ∑ j ∈ range b, f (b * i + j) := by
  induction a with
  | zero => simp
  | succ a ih => rw [Nat.succ_mul, sum_range_add, ih, sum_range_succ, Nat.mul_comm a b]

/-- The row's sum, 256 columns at a time in the order of the bytes. -/
theorem sum_steps (K : ℕ) (x : ℕ → EReal) (q : ℕ → BitVec 8) (s : ℕ → EReal) :
    ∑ k ∈ range K, ∑ r ∈ range 256,
        x (col (256 * k + r)) * ((nib (q (128 * k + r / 2)) (r % 2) : EReal) * s (2 * k + r / 128))
      = qlin (K * 2) x q s := by
  unfold qlin
  rw [← sum_add_distrib, sum_range_mul _ K 2]
  refine sum_congr rfl fun k _ => ?_
  rw [show (256 : ℕ) = 2 * (64 * 2) from rfl, sum_range_mul _ 2 (64 * 2)]
  refine sum_congr rfl fun e he => ?_
  rw [sum_range_mul _ 64 2, ← sum_add_distrib]
  refine sum_congr rfl fun c hc => ?_
  have he' := mem_range.mp he
  have hc' := mem_range.mp hc
  rw [sum_range_succ, sum_range_succ, sum_range_zero, zero_add]
  have term : ∀ p < 2, x (col (2 * (64 * 2) * k + (64 * 2 * e + (2 * c + p))))
      * ((nib (q (128 * k + (64 * 2 * e + (2 * c + p)) / 2)) ((64 * 2 * e + (2 * c + p)) % 2) : EReal) * s (2 * k + (64 * 2 * e + (2 * c + p)) / 128))
      = x (128 * (2 * k + e) + 64 * p + c) * ((nib (q (64 * (2 * k + e) + c)) p : EReal) * s (2 * k + e)) := by
    intro p hp
    rw [show col (2 * (64 * 2) * k + (64 * 2 * e + (2 * c + p))) = 128 * (2 * k + e) + 64 * p + c by unfold col; omega,
      show 128 * k + (64 * 2 * e + (2 * c + p)) / 2 = 64 * (2 * k + e) + c by omega,
      show (64 * 2 * e + (2 * c + p)) % 2 = p by omega,
      show 2 * k + (64 * 2 * e + (2 * c + p)) / 128 = 2 * k + e by omega]
  rw [term 0 (by omega), term 1 (by omega), Nat.mul_zero, Nat.add_zero, Nat.mul_one]

end Cert.Hand

end
-- ==== Proof.Spec.lean ====
/- Hand-written, untrusted: the quantized gated MLP, entry by entry, over the argument arrays. Both programs are proved to compute
   it. -/
module

public import proofs.«01_k».proof.Proof.Sums
public import Idealize.ShloMosaic.Lib.Pointwise

@[expose] public section

noncomputable section

namespace Cert.Hand

open Idealize.ShloMosaic

/-- An entry of a matrix, read at natural numbers. -/
def at2 {α : Type} (z : α) {R C : ℕ} (v : (⟨2, ![R, C]⟩ : Shape).Idx → α) (r j : ℕ) : α :=
  if h : r < R ∧ j < C then v (ix2 ⟨r, h.1⟩ ⟨j, h.2⟩) else z

theorem at2_eq {α : Type} (z : α) {R C : ℕ} (v : (⟨2, ![R, C]⟩ : Shape).Idx → α) (r j : ℕ) (hr : r < R) (hj : j < C) :
    at2 z v r j = v (ix2 ⟨r, hr⟩ ⟨j, hj⟩) := dif_pos ⟨hr, hj⟩

/-- An entry of a matrix with a unit axis in the middle, read at natural numbers. -/
def at3 {R C : ℕ} (v : (⟨3, ![R, 1, C]⟩ : Shape).Idx → EReal) (r j : ℕ) : EReal :=
  if h : r < R ∧ j < C then v (ix3 ⟨r, h.1⟩ 0 ⟨j, h.2⟩) else 0

theorem at3_eq {R C : ℕ} (v : (⟨3, ![R, 1, C]⟩ : Shape).Idx → EReal) (r j : ℕ) (hr : r < R) (hj : j < C) :
    at3 v r j = v (ix3 ⟨r, hr⟩ 0 ⟨j, hj⟩) := dif_pos ⟨hr, hj⟩

/-- The gated product of a gate entry and an up entry. -/
def gated (g u : EReal) : EReal := g * Ideal.logistic g * u

/-- A gate or up entry. -/
def lin (x : (⟨3, ![128, 1, 7168]⟩ : Shape).Idx → EReal) (q : (⟨2, ![4608, 3584]⟩ : Shape).Idx → BitVec 8)
    (s : (⟨2, ![4608, 56]⟩ : Shape).Idx → EReal) (b o : ℕ) : EReal :=
  qlin 56 (at3 x b) (at2 0 q o) (at2 0 s o)

/-- An entry of the result. -/
def mlp (x : (⟨3, ![128, 1, 7168]⟩ : Shape).Idx → EReal) (gq : (⟨2, ![4608, 3584]⟩ : Shape).Idx → BitVec 8)
    (gs : (⟨2, ![4608, 56]⟩ : Shape).Idx → EReal) (uq : (⟨2, ![4608, 3584]⟩ : Shape).Idx → BitVec 8)
    (us : (⟨2, ![4608, 56]⟩ : Shape).Idx → EReal) (dq : (⟨2, ![7168, 2304]⟩ : Shape).Idx → BitVec 8)
    (ds : (⟨2, ![7168, 36]⟩ : Shape).Idx → EReal) (b o : ℕ) : EReal :=
  qlin 36 (fun j => gated (lin x gq gs b j) (lin x uq us b j)) (at2 0 dq o) (at2 0 ds o)

end Cert.Hand

end
-- ==== Proof.Host.lean ====
/- Hand-written, untrusted: what the arrays the kernel's host code prepares hold, entry by entry: the activations in the order of
   the packed bytes, and each table of scales transposed and split in two parts whose sum is the scale. -/
module

public import proofs.«01_k».proof.Proof.Gen.KernelIdeal.Frame
public import proofs.«01_k».proof.Proof.Spec
public import Idealize.ShloMosaic.Lib.StableHlo.ReadAt

@[expose] public section

set_option maxRecDepth 16384
set_option synthInstance.maxSize 4096

noncomputable section

namespace Cert.KernelIdeal.Hand

open Cert.KernelIdeal Cert.KernelIdeal.Gen Cert.Hand
open Idealize.ShloMosaic Idealize.ShloMosaic.TcCoe Idealize.SL.Sem

variable (m : (ℓ : Loc nD τ sig) → Buf (Elt Ideal) ℓ) (c : Dev nD)

abbrev argX : (⟨3, ![128, 1, 7168]⟩ : Shape).Idx → EReal := m ((c : Thread nD τ).loc main_arg0)
abbrev argGq : (⟨2, ![4608, 3584]⟩ : Shape).Idx → BitVec 8 := m ((c : Thread nD τ).loc main_arg1)
abbrev argGs : (⟨2, ![4608, 56]⟩ : Shape).Idx → EReal := m ((c : Thread nD τ).loc main_arg2)
abbrev argUq : (⟨2, ![4608, 3584]⟩ : Shape).Idx → BitVec 8 := m ((c : Thread nD τ).loc main_arg3)
abbrev argUs : (⟨2, ![4608, 56]⟩ : Shape).Idx → EReal := m ((c : Thread nD τ).loc main_arg4)
abbrev argDq : (⟨2, ![7168, 2304]⟩ : Shape).Idx → BitVec 8 := m ((c : Thread nD τ).loc main_arg5)
abbrev argDs : (⟨2, ![7168, 36]⟩ : Shape).Idx → EReal := m ((c : Thread nD τ).loc main_arg6)

/-- The larger part of a scale. -/
def big (s : EReal) : EReal :=
  let t := s * Ideal.ofBits .f32 0x3F800800#32
  let u := t * Ideal.ofBits .f32 0x49000010#32
  u - (u - t)

theorem V_x (b : Fin 128) (j : Fin 7168) :
    (Gen.V m c main_v2 : S128x7168.Idx → EReal) (ix2 b j) = at3 (argX m c) b.val (col j.val) := by
  rw [at3_eq _ _ _ b.isLt (by unfold col; omega)]
  unfold V
  after_reads_at
  refine congrArg (fun v => argX m c (ix3 b 0 v)) (Fin.ext ?_)
  show j.val / 128 * 128 + j.val % 2 * 64 + j.val / 2 % 64 = col j.val
  unfold col; omega

theorem V_ga (g : Fin 56) (o : Fin 4608) :
    (Gen.V m c main_v9 : S56x4608.Idx → EReal) (ix2 g o) = big (argGs m c (ix2 o g)) := by
  unfold V
  after_reads_at
  rfl

theorem V_gb (g : Fin 56) (o : Fin 4608) :
    (Gen.V m c main_v10 : S56x4608.Idx → EReal) (ix2 g o) = argGs m c (ix2 o g) - big (argGs m c (ix2 o g)) := by
  unfold V
  after_reads_at
  rfl

theorem V_ua (g : Fin 56) (o : Fin 4608) :
    (Gen.V m c main_v17 : S56x4608.Idx → EReal) (ix2 g o) = big (argUs m c (ix2 o g)) := by
  unfold V
  after_reads_at
  rfl

theorem V_ub (g : Fin 56) (o : Fin 4608) :
    (Gen.V m c main_v18 : S56x4608.Idx → EReal) (ix2 g o) = argUs m c (ix2 o g) - big (argUs m c (ix2 o g)) := by
  unfold V
  after_reads_at
  rfl

theorem V_da (g : Fin 36) (o : Fin 7168) :
    (Gen.V m c main_v25 : S36x7168.Idx → EReal) (ix2 g o) = big (argDs m c (ix2 o g)) := by
  unfold V
  after_reads_at
  rfl

theorem V_db (g : Fin 36) (o : Fin 7168) :
    (Gen.V m c main_v26 : S36x7168.Idx → EReal) (ix2 g o) = argDs m c (ix2 o g) - big (argDs m c (ix2 o g)) := by
  unfold V
  after_reads_at
  rfl

theorem c1_real : ∃ r : ℝ, Ideal.ofBits .f32 0x3F800800#32 = (r : EReal) :=
  ⟨_, by simp only [Ideal.ofBits, Ideal.ieee]; simp [-EReal.coe_mul]; rfl⟩

theorem c2_real : ∃ r : ℝ, Ideal.ofBits .f32 0x49000010#32 = (r : EReal) :=
  ⟨_, by simp only [Ideal.ofBits, Ideal.ieee]; simp [-EReal.coe_mul]; rfl⟩

/-- A finite scale is the sum of its two finite parts. -/
theorem big_parts (s : EReal) (h : ∃ r : ℝ, s = (r : EReal)) :
    ∃ α β : ℝ, big s = (α : EReal) ∧ s - big s = (β : EReal) ∧ s = ((α + β : ℝ) : EReal) := by
  obtain ⟨r, rfl⟩ := h
  obtain ⟨r1, h1⟩ := c1_real
  obtain ⟨r2, h2⟩ := c2_real
  have hb : big (r : EReal) = ((r * r1 * r2 - (r * r1 * r2 - r * r1) : ℝ) : EReal) := by
    unfold big
    rw [h1, h2]
    norm_cast
  refine ⟨_, r - (r * r1 * r2 - (r * r1 * r2 - r * r1)), hb, by rw [hb]; norm_cast, ?_⟩
  congr 1
  ring

end Cert.KernelIdeal.Hand

end
-- ==== Proof.Blocks.lean ====
/- Hand-written, untrusted: the windows' blocks read as parts of the arrays. -/
module

public import proofs.«01_k».proof.Proof.Host
public import Idealize.ShloMosaic.Lib.Pipeline.ValueKit.Point
public import Idealize.ShloMosaic.Lib.Pipeline.ValueKit.Geometry

@[expose] public section

set_option maxRecDepth 16384
set_option synthInstance.maxSize 4096

noncomputable section

namespace Cert.KernelIdeal.Hand

open Cert.KernelIdeal Cert.KernelIdeal.Gen Cert.Hand
open Idealize.ShloMosaic Idealize.ShloMosaic.TcCoe Idealize.SL.Sem

variable (m : (ℓ : Loc nD τ sig) → Buf (Elt Ideal) ℓ) (c : Dev nD)

theorem at_win0 : ∀ t : Fin cfg0.N, win0_0.index t 0 = 0 ∧ win0_0.index t 1 = 0 := by decide +kernel
theorem at_win1 : ∀ t : Fin cfg0.N, t.val < 18 → win0_1.index t 0 = t.val ∧ win0_1.index t 1 = 0 := by decide +kernel
theorem at_win4 : ∀ t : Fin cfg0.N, t.val < 18 → win0_4.index t 0 = t.val ∧ win0_4.index t 1 = 0 := by decide +kernel
theorem at_win2 : ∀ t : Fin cfg0.N, t.val < 18 → win0_2.index t 0 = 0 ∧ win0_2.index t 1 = t.val := by decide +kernel
theorem at_win3 : ∀ t : Fin cfg0.N, t.val < 18 → win0_3.index t 0 = 0 ∧ win0_3.index t 1 = t.val := by decide +kernel
theorem at_win5 : ∀ t : Fin cfg0.N, t.val < 18 → win0_5.index t 0 = 0 ∧ win0_5.index t 1 = t.val := by decide +kernel
theorem at_win6 : ∀ t : Fin cfg0.N, t.val < 18 → win0_6.index t 0 = 0 ∧ win0_6.index t 1 = t.val := by decide +kernel
theorem at_win7 : ∀ t : Fin cfg0.N, 18 ≤ t.val → win0_7.index t 0 = t.val - 18 ∧ win0_7.index t 1 = 0 := by decide +kernel
theorem at_win8 : ∀ t : Fin cfg0.N, 18 ≤ t.val → win0_8.index t 0 = 0 ∧ win0_8.index t 1 = t.val - 18 := by decide +kernel
theorem at_win9 : ∀ t : Fin cfg0.N, 18 ≤ t.val → win0_9.index t 0 = 0 ∧ win0_9.index t 1 = t.val - 18 := by decide +kernel
theorem at_win10 : ∀ t : Fin cfg0.N, 18 ≤ t.val → win0_10.index t 0 = 0 ∧ win0_10.index t 1 = t.val - 18 := by decide +kernel

theorem iblk_x (t : Fin cfg0.N) (b : Fin 128) (j : Fin 7168) :
    (iblk m c 0 t : S128x7168.Idx → EReal) (ix2 b j) = at3 (argX m c) b.val (col j.val) := by
  rw [← V_x]
  have h := at_win0 t
  blk_ext [iblk, h.1, h.2]

theorem iblk_gq (t : Fin cfg0.N) (ht : t.val < 18) (o : Fin 256) (j : Fin 3584) :
    (iblk m c 1 t : S256x3584.Idx → BitVec 8) (ix2 o j) = argGq m c (ix2 ⟨256 * t.val + o.val, by omega⟩ j) := by
  have h := at_win1 t ht
  blk_ext [iblk, V, h.1, h.2]

theorem iblk_uq (t : Fin cfg0.N) (ht : t.val < 18) (o : Fin 256) (j : Fin 3584) :
    (iblk m c 4 t : S256x3584.Idx → BitVec 8) (ix2 o j) = argUq m c (ix2 ⟨256 * t.val + o.val, by omega⟩ j) := by
  have h := at_win4 t ht
  blk_ext [iblk, V, h.1, h.2]

theorem iblk_ga (t : Fin cfg0.N) (ht : t.val < 18) (g : Fin 56) (o : Fin 256) :
    (iblk m c 2 t : S56x256.Idx → EReal) (ix2 g o) = big (argGs m c (ix2 ⟨256 * t.val + o.val, by omega⟩ g)) := by
  rw [← V_ga]
  have h := at_win2 t ht
  blk_ext [iblk, h.1, h.2]

theorem iblk_gb (t : Fin cfg0.N) (ht : t.val < 18) (g : Fin 56) (o : Fin 256) :
    (iblk m c 3 t : S56x256.Idx → EReal) (ix2 g o) = argGs m c (ix2 ⟨256 * t.val + o.val, by omega⟩ g) - big (argGs m c (ix2 ⟨256 * t.val + o.val, by omega⟩ g)) := by
  rw [← V_gb]
  have h := at_win3 t ht
  blk_ext [iblk, h.1, h.2]

theorem iblk_ua (t : Fin cfg0.N) (ht : t.val < 18) (g : Fin 56) (o : Fin 256) :
    (iblk m c 5 t : S56x256.Idx → EReal) (ix2 g o) = big (argUs m c (ix2 ⟨256 * t.val + o.val, by omega⟩ g)) := by
  rw [← V_ua]
  have h := at_win5 t ht
  blk_ext [iblk, h.1, h.2]

theorem iblk_ub (t : Fin cfg0.N) (ht : t.val < 18) (g : Fin 56) (o : Fin 256) :
    (iblk m c 6 t : S56x256.Idx → EReal) (ix2 g o) = argUs m c (ix2 ⟨256 * t.val + o.val, by omega⟩ g) - big (argUs m c (ix2 ⟨256 * t.val + o.val, by omega⟩ g)) := by
  rw [← V_ub]
  have h := at_win6 t ht
  blk_ext [iblk, h.1, h.2]

theorem lt32 (t : Fin cfg0.N) : t.val < 32 := t.isLt

theorem iblk_dq (t : Fin cfg0.N) (ht : 18 ≤ t.val) (o : Fin 512) (j : Fin 2304) :
    (iblk m c 7 t : S512x2304.Idx → BitVec 8) (ix2 o j) = argDq m c (ix2 ⟨512 * (t.val - 18) + o.val, by have := lt32 t; omega⟩ j) := by
  have h := at_win7 t ht
  blk_ext [iblk, V, h.1, h.2]

theorem iblk_da (t : Fin cfg0.N) (ht : 18 ≤ t.val) (g : Fin 36) (o : Fin 512) :
    (iblk m c 8 t : S36x512.Idx → EReal) (ix2 g o) = big (argDs m c (ix2 ⟨512 * (t.val - 18) + o.val, by have := lt32 t; omega⟩ g)) := by
  rw [← V_da]
  have h := at_win8 t ht
  blk_ext [iblk, h.1, h.2]

theorem iblk_db (t : Fin cfg0.N) (ht : 18 ≤ t.val) (g : Fin 36) (o : Fin 512) :
    (iblk m c 9 t : S36x512.Idx → EReal) (ix2 g o) = argDs m c (ix2 ⟨512 * (t.val - 18) + o.val, by have := lt32 t; omega⟩ g) - big (argDs m c (ix2 ⟨512 * (t.val - 18) + o.val, by have := lt32 t; omega⟩ g)) := by
  rw [← V_db]
  have h := at_win9 t ht
  blk_ext [iblk, h.1, h.2]

end Cert.KernelIdeal.Hand

end
-- ==== Proof.Bits.lean ====
/- Hand-written, untrusted: the four-bit numbers of a packed byte and of a 32-bit word of four bytes, read as integers. -/
module

public import Idealize.ShloMosaic.PureOps
public import proofs.«01_k».proof.Proof.Sums

@[expose] public section

noncomputable section

namespace Cert.Hand

open Idealize.ShloMosaic

/-- The `r`-th four-bit number of a word, brought to the top and shifted down with its sign, is the four bits with the top one
    flipped, sign-extended. -/
theorem word_nib (w : BitVec 32) (r : Fin 8) :
    (IntOp.shrsi .vector (IntOp.shli .vector (w ^^^ 2290649224#32) (28#32 - 4#32 * BitVec.ofNat 32 r.val)) 28#32)
      = ((w.extractLsb' (4 * r.val) 4) ^^^ 8#4).signExtend 32 := by
  have e : ∀ k : Fin 8, (28#32 - 4#32 * BitVec.ofNat 32 k.val).toNat = 28 - 4 * k.val := by decide
  have hs := e r
  have hr := r.isLt
  generalize 28#32 - 4#32 * BitVec.ofNat 32 r.val = y at hs
  simp only [IntOp.shrsi, IntOp.shli]
  rw [if_pos (show (28#32).toNat < 32 by decide), if_pos (by rw [hs]; omega), BitVec.sshiftRight_eq', BitVec.shiftLeft_eq', hs,
    show (28#32).toNat = 28 from rfl]
  refine BitVec.eq_of_getLsbD_eq fun i hi => ?_
  rw [BitVec.getLsbD_sshiftRight, BitVec.getLsbD_signExtend]
  have a (t : ℕ) (ht : t < 4) : ((w ^^^ 2290649224#32) <<< (28 - 4 * r.val)).getLsbD (28 + t)
      = (BitVec.extractLsb' (4 * r.val) 4 w ^^^ 8#4).getLsbD t := by
    rw [BitVec.getLsbD_shiftLeft, BitVec.getLsbD_xor, BitVec.getLsbD_xor, BitVec.getLsbD_extractLsb',
      show 28 + t - (28 - 4 * r.val) = 4 * r.val + t by omega]
    have c : ∀ (r : Fin 8) (t : Fin 4), (2290649224#32).getLsbD (4 * r.val + t.val) = (8#4).getLsbD t.val := by decide
    rw [c r ⟨t, ht⟩]
    have h1 : 28 + t < 32 := by omega
    have h2 : ¬ 28 + t < 28 - 4 * r.val := by omega
    simp [h1, h2, ht]
  have hm (x : BitVec 32) : x.msb = x.getLsbD (28 + 3) := by rw [BitVec.msb_eq_getLsbD_last]
  have hm4 (x : BitVec 4) : x.msb = x.getLsbD 3 := by rw [BitVec.msb_eq_getLsbD_last]
  rw [hm, hm4, a 3 (by omega)]
  by_cases h : i < 4
  · rw [a i h]
    have h1 : ¬ 32 ≤ i := by omega
    have h2 : 28 + i < 32 := by omega
    simp [h, h1, h2, hi]
  · have h1 : ¬ 32 ≤ i := by omega
    have h2 : ¬ 28 + i < 32 := by omega
    simp [h, h1, h2, hi]

theorem toInt_nib (v : BitVec 4) : (BitVec.signExtend 32 (v ^^^ 8#4)).toInt = (v.toNat : ℤ) - 8 := by
  revert v; decide

theorem lo_nib (q : BitVec 8) : (IntOp.andi (q.setWidth 32) 15#32).toInt = ((q.toNat / 16 ^ 0 % 16 : ℕ) : ℤ) := by
  revert q; decide +kernel

theorem hi_nib (q : BitVec 8) : (IntOp.shrsi .host (q.setWidth 32) 4#32).toInt = ((q.toNat / 16 ^ 1 % 16 : ℕ) : ℤ) := by
  simp only [IntOp.shrsi]
  rw [if_pos (by decide)]
  revert q; decide +kernel

/-- A four-bit number of a word is that number of the byte it lies in. -/
theorem word_byte (w : BitVec 32) (q : BitVec 8) (r : ℕ) (hr : r < 8)
    (h : ∀ i < 8, w.getLsbD (8 * (r / 2) + i) = q.getLsbD i) :
    (w.extractLsb' (4 * r) 4).toNat = q.toNat / 16 ^ (r % 2) % 16 := by
  have e : w.extractLsb' (4 * r) 4 = q.extractLsb' (4 * (r % 2)) 4 := by
    refine BitVec.eq_of_getLsbD_eq fun i hi => ?_
    rw [BitVec.getLsbD_extractLsb', BitVec.getLsbD_extractLsb']
    rw [← h (4 * (r % 2) + i) (by omega)]
    congr 2; omega
  rw [e, BitVec.extractLsb'_toNat, Nat.shiftRight_eq_div_pow, Nat.pow_mul]

end Cert.Hand

end
-- ==== Proof.TileVal.lean ====
/- Hand-written, untrusted: the kernel's tiles at the extended reals, entry by entry. -/
module

public import proofs.«01_k».proof.Proof.Tile
public import proofs.«01_k».proof.Proof.Bits
public import proofs.«01_k».proof.Proof.Spec
public import Idealize.ShloMosaic.Lib.Pointwise
public import Idealize.ShloMosaic.Lib.BitcastFour

@[expose] public section

set_option maxRecDepth 16384
set_option synthInstance.maxSize 4096

noncomputable section

namespace Cert.KernelIdeal.Hand

open Cert.KernelIdeal.Gen Cert.Hand
open Idealize.ShloMosaic Idealize.SL.Sem

theorem and7 : ∀ r : Fin 256, IntOp.andi (BitVec.ofNat 32 r.val) 7#32 = BitVec.ofNat 32 (r.val % 8) := by decide

/-- A tile's four-bit numbers, less eight. -/
theorem nibs_at (q : Vec Ideal S256x128 .i8) (r o : Fin 256) :
    nibs (F := Ideal) q (ix2 r o) = (nib (q (ix2 o ⟨r.val / 2, by omega⟩)) (r.val % 2) : EReal) := by
  unfold nibs k0_pay7
  pointwise
  rw [and7]
  have hw := word_nib (bitcast S32x256 32 (transpose S128x256 [1, 0] q transposes_S256x128_p1_0_S128x256)
    bitcasts_S128x256_w8_S32x256_w32 (ix2 ⟨r.val / 8, by omega⟩ o)) ⟨r.val % 8, by omega⟩
  have hb := word_byte (bitcast S32x256 32 (transpose S128x256 [1, 0] q transposes_S256x128_p1_0_S128x256)
    bitcasts_S128x256_w8_S32x256_w32 (ix2 ⟨r.val / 8, by omega⟩ o)) (q (ix2 o ⟨r.val / 2, by omega⟩)) (r.val % 8) (by omega)
    (fun i hi => by
      refine (bitcast_8_32_getLsbD_ix2 _ _ ⟨r.val / 8, by omega⟩ o (8 * (r.val % 8 / 2) + i) (by omega)
        ⟨r.val / 2, by omega⟩ (by show r.val / 2 = 4 * (r.val / 8) + (8 * (r.val % 8 / 2) + i) / 8; omega)).trans ?_
      rw [show (8 * (r.val % 8 / 2) + i) % 8 = i by omega]
      refine congrArg (fun v : BitVec 8 => v.getLsbD i) ?_
      pointwise)
  refine (congrArg (fun v : BitVec 32 => ((v.toInt : ℝ) : EReal)) hw).trans ?_
  unfold nib
  rw [toInt_nib, hb, show r.val % 8 % 2 = r.val % 2 by omega]
  push_cast
  rfl

/-- A tile's weights under two rows of scales, each the sum of its two finite parts. -/
theorem wtile_at (q : Vec Ideal S256x128 .i8) (a0 b0 a1 b1 : Vec Ideal S1x256 .f32) (r o : Fin 256) (s : ℕ → EReal)
    (h0 : ∃ α β : ℝ, a0 (ix2 0 o) = (α : EReal) ∧ b0 (ix2 0 o) = (β : EReal) ∧ s 0 = ((α + β : ℝ) : EReal))
    (h1 : ∃ α β : ℝ, a1 (ix2 0 o) = (α : EReal) ∧ b1 (ix2 0 o) = (β : EReal) ∧ s 1 = ((α + β : ℝ) : EReal)) :
    wtile (F := Ideal) q a0 b0 a1 b1 (ix2 r o)
      = (nib (q (ix2 o ⟨r.val / 2, by omega⟩)) (r.val % 2) : EReal) * s (r.val / 128) := by
  unfold wtile scaled scaleRows
  pointwise
  obtain ⟨α, β, ha, hb, hs⟩ := h0
  obtain ⟨α', β', ha', hb', hs'⟩ := h1
  split
  · rename_i h
    rw [nibs_at, ha, hb, show r.val / 128 = 0 by omega, hs, ← EReal.coe_mul, ← EReal.coe_mul, ← EReal.coe_add, ← EReal.coe_mul, mul_add]
  · rename_i h
    have e : (⟨128 + (r.val - 128), by omega⟩ : Fin 256) = r := Fin.ext (by show 128 + (r.val - 128) = r.val; omega)
    rw [e, nibs_at, ha', hb', show r.val / 128 = 1 by omega, hs', ← EReal.coe_mul, ← EReal.coe_mul, ← EReal.coe_add, ← EReal.coe_mul, mul_add]

theorem step_at (acc : FVec Ideal S128x256 .f32) (x : FVec Ideal S128x256 .bf16) (w : FVec Ideal S256x256 .bf16) (b : Fin 128) (o : Fin 256) :
    step (F := Ideal) acc x w (ix2 b o) = acc (ix2 b o) + ∑ r : Fin 256, x (ix2 b r) * w (ix2 r o) := by
  unfold step
  pointwise

theorem zero_at (b : Fin 128) (o : Fin 256) : zero (F := Ideal) (ix2 b o) = 0 := by
  unfold zero
  pointwise

theorem chain28_at (f : Fin 28 → FVec Ideal S128x256 .f32 → FVec Ideal S128x256 .f32) (z : FVec Ideal S128x256 .f32) (i : S128x256.Idx) (T : ℕ → EReal)
    (hz : z i = 0) (h : ∀ (k : Fin 28) acc, f k acc i = acc i + T k.val) :
    chain28 f z i = ∑ k ∈ Finset.range 28, T k := by
  unfold chain28
  simp only [h, hz, Finset.sum_range_succ, Finset.sum_range_zero]
  rfl

theorem chain18_at (f : Fin 18 → FVec Ideal S128x256 .f32 → FVec Ideal S128x256 .f32) (z : FVec Ideal S128x256 .f32) (i : S128x256.Idx) (T : ℕ → EReal)
    (hz : z i = 0) (h : ∀ (k : Fin 18) acc, f k acc i = acc i + T k.val) :
    chain18 f z i = ∑ k ∈ Finset.range 18, T k := by
  unfold chain18
  simp only [h, hz, Finset.sum_range_succ, Finset.sum_range_zero]
  rfl

theorem upStep_at (x : Vec Ideal S128x7168 .bf16) (q : Vec Ideal S256x3584 .i8) (a b : Vec Ideal S56x256 .f32) (i : Fin 128) (o : Fin 256)
    (X : ℕ → EReal) (Q : ℕ → BitVec 8) (S : ℕ → EReal)
    (hX : ∀ j (h : j < 7168), x (ix2 i ⟨j, h⟩) = X j) (hQ : ∀ j (h : j < 3584), q (ix2 o ⟨j, h⟩) = Q j)
    (hS : ∀ g (h : g < 56), ∃ α β : ℝ, a (ix2 ⟨g, h⟩ o) = (α : EReal) ∧ b (ix2 ⟨g, h⟩ o) = (β : EReal) ∧ S g = ((α + β : ℝ) : EReal))
    (k : Fin 28) (acc : FVec Ideal S128x256 .f32) :
    upStep (F := Ideal) x q a b k acc (ix2 i o) = acc (ix2 i o) + ∑ r ∈ Finset.range 256,
      X (256 * k.val + r) * ((nib (Q (128 * k.val + r / 2)) (r % 2) : EReal) * S (2 * k.val + r / 128)) := by
  have hk := k.isLt
  unfold upStep
  rw [step_at, Finset.sum_range]
  refine congrArg (acc (ix2 i o) + ·) (Finset.sum_congr rfl fun r _ => ?_)
  unfold upW
  rw [wtile_at _ _ _ _ _ r o (fun g => S (2 * k.val + g))
    (by obtain ⟨α, β, h1, h2, h3⟩ := hS (2 * k.val) (by omega)
        exact ⟨α, β, (by pointwise; exact h1), (by pointwise; exact h2), h3⟩)
    (by obtain ⟨α, β, h1, h2, h3⟩ := hS (2 * k.val + 1) (by omega)
        exact ⟨α, β, (by pointwise; exact h1), (by pointwise; exact h2), h3⟩)]
  refine congrArg₂ (· * ·) ?_ (congrArg (· * _) (congrArg (fun v => ((nib v (r.val % 2) : ℝ) : EReal)) ?_))
  · pointwise
    exact hX _ _
  · pointwise
    exact hQ _ _

theorem dnStep_at (h : Vec Ideal S128x4608 .bf16) (q : Vec Ideal S512x2304 .i8) (a b : Vec Ideal S36x512 .f32) (p : Fin 2) (i : Fin 128) (o : Fin 256)
    (X : ℕ → EReal) (Q : ℕ → BitVec 8) (S : ℕ → EReal)
    (hX : ∀ j (hj : j < 4608), h (ix2 i ⟨j, hj⟩) = X j) (hQ : ∀ j (hj : j < 2304), q (ix2 ⟨256 * p.val + o.val, by omega⟩ ⟨j, hj⟩) = Q j)
    (hS : ∀ g (hg : g < 36), ∃ α β : ℝ, a (ix2 ⟨g, hg⟩ ⟨256 * p.val + o.val, by omega⟩) = (α : EReal) ∧ b (ix2 ⟨g, hg⟩ ⟨256 * p.val + o.val, by omega⟩) = (β : EReal) ∧ S g = ((α + β : ℝ) : EReal))
    (k : Fin 18) (acc : FVec Ideal S128x256 .f32) :
    dnStep (F := Ideal) h q a b p k acc (ix2 i o) = acc (ix2 i o) + ∑ r ∈ Finset.range 256,
      X (256 * k.val + r) * ((nib (Q (128 * k.val + r / 2)) (r % 2) : EReal) * S (2 * k.val + r / 128)) := by
  have hk := k.isLt
  unfold dnStep
  rw [step_at, Finset.sum_range]
  refine congrArg (acc (ix2 i o) + ·) (Finset.sum_congr rfl fun r _ => ?_)
  unfold dnW
  rw [wtile_at _ _ _ _ _ r o (fun g => S (2 * k.val + g))
    (by obtain ⟨α, β, h1, h2, h3⟩ := hS (2 * k.val) (by omega)
        exact ⟨α, β, (by pointwise; exact h1), (by pointwise; exact h2), h3⟩)
    (by obtain ⟨α, β, h1, h2, h3⟩ := hS (2 * k.val + 1) (by omega)
        exact ⟨α, β, (by pointwise; exact h1), (by pointwise; exact h2), h3⟩)]
  refine congrArg₂ (· * ·) ?_ (congrArg (· * _) (congrArg (fun v => ((nib v (r.val % 2) : ℝ) : EReal)) ?_))
  · pointwise
    exact hX _ _
  · pointwise
    exact hQ _ _

/-- An entry of a gate or up tile is a row of the quantized linear map. -/
theorem upTile_at (x : Vec Ideal S128x7168 .bf16) (q : Vec Ideal S256x3584 .i8) (a b : Vec Ideal S56x256 .f32) (i : Fin 128) (o : Fin 256)
    (X : ℕ → EReal) (Q : ℕ → BitVec 8) (S : ℕ → EReal)
    (hX : ∀ j (h : j < 7168), x (ix2 i ⟨j, h⟩) = X (col j)) (hQ : ∀ j (h : j < 3584), q (ix2 o ⟨j, h⟩) = Q j)
    (hS : ∀ g (h : g < 56), ∃ α β : ℝ, a (ix2 ⟨g, h⟩ o) = (α : EReal) ∧ b (ix2 ⟨g, h⟩ o) = (β : EReal) ∧ S g = ((α + β : ℝ) : EReal)) :
    upTile (F := Ideal) x q a b (ix2 i o) = qlin 56 X Q S :=
  (chain28_at _ _ _ _ (zero_at i o) fun k acc => upStep_at x q a b i o (fun j => X (col j)) Q S hX hQ hS k acc).trans
    (sum_steps 28 X Q S)

/-- An entry of a down tile is a row of the quantized linear map. -/
theorem dnTile_at (h : Vec Ideal S128x4608 .bf16) (q : Vec Ideal S512x2304 .i8) (a b : Vec Ideal S36x512 .f32) (p : Fin 2) (i : Fin 128) (o : Fin 256)
    (X : ℕ → EReal) (Q : ℕ → BitVec 8) (S : ℕ → EReal)
    (hX : ∀ j (hj : j < 4608), h (ix2 i ⟨j, hj⟩) = X (col j)) (hQ : ∀ j (hj : j < 2304), q (ix2 ⟨256 * p.val + o.val, by omega⟩ ⟨j, hj⟩) = Q j)
    (hS : ∀ g (hg : g < 36), ∃ α β : ℝ, a (ix2 ⟨g, hg⟩ ⟨256 * p.val + o.val, by omega⟩) = (α : EReal) ∧ b (ix2 ⟨g, hg⟩ ⟨256 * p.val + o.val, by omega⟩) = (β : EReal) ∧ S g = ((α + β : ℝ) : EReal)) :
    dnTile (F := Ideal) h q a b p (ix2 i o) = qlin 36 X Q S :=
  (chain18_at _ _ _ _ (zero_at i o) fun k acc => dnStep_at h q a b p i o (fun j => X (col j)) Q S hX hQ hS k acc).trans
    (sum_steps 18 X Q S)

/-- The gather index of a lane. -/
theorem perm_lane : ∀ o : Fin 128,
    (Scalar.select
      (IntOp.cmpi CmpIPredicate.slt (IntOp.addi (IntOp.shrsi ArithUnit.vector (BitVec.ofNat 32 o.val) 1#32) (IntOp.muli (IntOp.andi (BitVec.ofNat 32 o.val) 1#32) 64#32)) 0#32)
      (IntOp.addi (IntOp.addi (IntOp.shrsi ArithUnit.vector (BitVec.ofNat 32 o.val) 1#32) (IntOp.muli (IntOp.andi (BitVec.ofNat 32 o.val) 1#32) 64#32)) 128#32)
      (IntOp.addi (IntOp.shrsi ArithUnit.vector (BitVec.ofNat 32 o.val) 1#32) (IntOp.muli (IntOp.andi (BitVec.ofNat 32 o.val) 1#32) 64#32))).toNat % 128
      = 64 * (o.val % 2) + o.val % 128 / 2 := by decide +kernel

theorem col_lt (o : ℕ) (h : o < 256) : col o < 256 := by unfold col; omega

/-- The permuted tile's column `o` is the tile's column `col o`. -/
theorem permute_at (h : FVec Ideal S128x256 .bf16) (b : Fin 128) (o : Fin 256) :
    permute (F := Ideal) h (ix2 b o) = h (ix2 b ⟨col o.val, col_lt _ o.isLt⟩) := by
  unfold permute perm k0_pay245 k0_pay242
  pointwise
  split
  · rename_i hh
    refine congrArg (fun v => h (ix2 b v)) (Fin.ext ?_)
    refine (perm_lane ⟨o.val, hh⟩).trans ?_
    show 64 * (o.val % 2) + o.val % 128 / 2 = col o.val
    unfold col; omega
  · rename_i hh
    refine congrArg (fun v => h (ix2 b v)) (Fin.ext ?_)
    refine (congrArg (128 + ·) (perm_lane ⟨o.val - 128, by omega⟩)).trans ?_
    show 128 + (64 * ((o.val - 128) % 2) + (o.val - 128) % 128 / 2) = col o.val
    unfold col; omega

theorem hidden_at (g u : FVec Ideal S128x256 .f32) (i : S128x256.Idx) : hidden (F := Ideal) g u i = gated (g i) (u i) := by
  unfold hidden gated
  pointwise

end Cert.KernelIdeal.Hand

end
-- ==== Proof.Final.lean ====
/- Hand-written, untrusted: the array the idealized kernel leaves, entry by entry, when every scale is finite. -/
module

public import proofs.«01_k».proof.Proof.Vals
public import proofs.«01_k».proof.Proof.Blocks
public import proofs.«01_k».proof.Proof.TileVal

@[expose] public section

set_option maxRecDepth 16384
set_option synthInstance.maxSize 4096

noncomputable section

namespace Cert.KernelIdeal.Hand

open Cert.KernelIdeal Cert.KernelIdeal.Gen Cert.Hand
open Idealize.ShloMosaic Idealize.ShloMosaic.TcCoe Idealize.SL.Sem

variable (m : (ℓ : Loc nD τ sig) → Buf (Elt Ideal) ℓ) (c : Dev nD)

/-- Every scale is a real number. -/
structure Finite : Prop where
  gate : ∀ o g, ∃ r : ℝ, argGs m c (ix2 o g) = (r : EReal)
  up : ∀ o g, ∃ r : ℝ, argUs m c (ix2 o g) = (r : EReal)
  down : ∀ o g, ∃ r : ℝ, argDs m c (ix2 o g) = (r : EReal)

variable {m c}

/-- A hidden entry. -/
def hid (m : (ℓ : Loc nD τ sig) → Buf (Elt Ideal) ℓ) (c : Dev nD) (b j : ℕ) : EReal :=
  gated (lin (argX m c) (argGq m c) (argGs m c) b j) (lin (argX m c) (argUq m c) (argUs m c) b j)

theorem gate_tile (hf : Finite m c) (t : Fin cfg0.N) (ht : t.val < 18) (b : Fin 128) (o : Fin 256) :
    upTile (F := Ideal) (iblk m c 0 t) (iblk m c 1 t) (iblk m c 2 t) (iblk m c 3 t) (ix2 b o)
      = lin (argX m c) (argGq m c) (argGs m c) b.val (256 * t.val + o.val) := by
  unfold lin
  refine upTile_at _ _ _ _ b o _ _ _ (fun j h => iblk_x m c t b ⟨j, h⟩) (fun j h => ?_) (fun g h => ?_)
  · rw [at2_eq 0 _ _ _ (by omega) h]
    exact iblk_gq m c t ht o ⟨j, h⟩
  · rw [at2_eq 0 _ _ _ (by omega) h]
    obtain ⟨α, β, h1, h2, h3⟩ := big_parts _ (hf.gate ⟨256 * t.val + o.val, by omega⟩ ⟨g, h⟩)
    exact ⟨α, β, (iblk_ga m c t ht ⟨g, h⟩ o).trans h1, (iblk_gb m c t ht ⟨g, h⟩ o).trans h2, h3⟩

theorem up_tile (hf : Finite m c) (t : Fin cfg0.N) (ht : t.val < 18) (b : Fin 128) (o : Fin 256) :
    upTile (F := Ideal) (iblk m c 0 t) (iblk m c 4 t) (iblk m c 5 t) (iblk m c 6 t) (ix2 b o)
      = lin (argX m c) (argUq m c) (argUs m c) b.val (256 * t.val + o.val) := by
  unfold lin
  refine upTile_at _ _ _ _ b o _ _ _ (fun j h => iblk_x m c t b ⟨j, h⟩) (fun j h => ?_) (fun g h => ?_)
  · rw [at2_eq 0 _ _ _ (by omega) h]
    exact iblk_uq m c t ht o ⟨j, h⟩
  · rw [at2_eq 0 _ _ _ (by omega) h]
    obtain ⟨α, β, h1, h2, h3⟩ := big_parts _ (hf.up ⟨256 * t.val + o.val, by omega⟩ ⟨g, h⟩)
    exact ⟨α, β, (iblk_ua m c t ht ⟨g, h⟩ o).trans h1, (iblk_ub m c t ht ⟨g, h⟩ o).trans h2, h3⟩

/-- The block of hidden activations a point of the first phase stores. -/
theorem hcol_at (hf : Finite m c) (t : Fin cfg0.N) (ht : t.val < 18) (b : Fin 128) (o : Fin 256) :
    hcol m c t (ix2 b o) = hid m c b.val (256 * t.val + col o.val) := by
  unfold hcol hblk
  rw [permute_at, hidden_at, gate_tile hf t ht, up_tile hf t ht]
  rfl

/-- The hidden activations, in the order of the packed bytes. -/
theorem hfull_at (hf : Finite m c) (b : Fin 128) (j : Fin 4608) :
    hfull m c (ix2 b j) = hid m c b.val (col j.val) := by
  refine (hcol_at hf ⟨j.val / 256, by rw [hN0]; omega⟩ (by show j.val / 256 < 18; omega) b ⟨j.val % 256, by omega⟩).trans ?_
  refine congrArg (hid m c b.val) ?_
  show 256 * (j.val / 256) + col (j.val % 256) = col j.val
  unfold col; omega

/-- A point of the second phase leaves its block of the result. -/
theorem down_tile (hf : Finite m c) (t : Fin cfg0.N) (ht : 18 ≤ t.val) (p : Fin 2) (b : Fin 128) (o : Fin 256) :
    yblk (F := Ideal) (hfull m c) (iblk m c 7 t) (iblk m c 8 t) (iblk m c 9 t) p (ix2 b o)
      = mlp (argX m c) (argGq m c) (argGs m c) (argUq m c) (argUs m c) (argDq m c) (argDs m c) b.val (512 * (t.val - 18) + (256 * p.val + o.val)) := by
  have htt := lt32 t
  have hp := p.isLt
  unfold mlp
  refine dnTile_at _ _ _ _ p b o (fun j => hid m c b.val j) _ _ (fun j h => hfull_at hf b ⟨j, h⟩) (fun j h => ?_) (fun g h => ?_)
  · rw [at2_eq 0 _ _ _ (by omega) h]
    exact iblk_dq m c t ht ⟨256 * p.val + o.val, by omega⟩ ⟨j, h⟩
  · rw [at2_eq 0 _ _ _ (by omega) h]
    obtain ⟨α, β, h1, h2, h3⟩ := big_parts _ (hf.down ⟨512 * (t.val - 18) + (256 * p.val + o.val), by omega⟩ ⟨g, h⟩)
    exact ⟨α, β, (iblk_da m c t ht ⟨g, h⟩ ⟨256 * p.val + o.val, by omega⟩).trans h1, (iblk_db m c t ht ⟨g, h⟩ ⟨256 * p.val + o.val, by omega⟩).trans h2, h3⟩

theorem yout_at (hf : Finite m c) (t : Fin cfg0.N) (ht : 18 ≤ t.val) (b : Fin 128) (o : Fin 512) :
    yout (F := Ideal) (hfull m c) (iblk m c 7 t) (iblk m c 8 t) (iblk m c 9 t) (ix2 b o)
      = mlp (argX m c) (argGq m c) (argGs m c) (argUq m c) (argUs m c) (argDq m c) (argDs m c) b.val (512 * (t.val - 18) + o.val) := by
  unfold yout beside
  by_cases h : o.val < 256
  · refine (dif_pos h).trans ((down_tile hf t ht 0 b ⟨o.val, h⟩).trans ?_)
    congr 2
    show 256 * 0 + o.val = o.val
    omega
  · refine (dif_neg h).trans ((down_tile hf t ht 1 b ⟨o.val - 256, by omega⟩).trans ?_)
    congr 2
    show 256 * 1 + (o.val - 256) = o.val
    omega

/-- The result array, over the argument arrays. -/
def result (m : (ℓ : Loc nD τ sig) → Buf (Elt Ideal) ℓ) (c : Dev nD) : S128x7168.Idx → EReal := fun i =>
  mlp (argX m c) (argGq m c) (argGs m c) (argUq m c) (argUs m c) (argDq m c) (argDs m c) (i 0).val (i 1).val

theorem flush_lt (t : Fin cfg0.N) (h : (cfg0.win 10).flush t = true) : 18 ≤ t.val := by
  by_contra hn
  rw [noflush10 t (by omega)] at h
  exact Bool.noConfusion h

theorem out_eq (hf : Finite m c) : (dats m 0 c).arrAt 10 cfg0.N = result m c := by
  refine (dats m 0 c).arrAt_eq_of_covers 10 _ (by decide +kernel) fun t hfl y => ?_
  have ht := flush_lt t hfl
  have hx := at_win10 t ht
  rw [after0_10]
  blk_simp [hx.1, hx.2]
  change S128x512.Idx at y
  obtain ⟨b, o, rfl⟩ : ∃ (b : Fin 128) (o : Fin 512), y = ix2 b o := ⟨y 0, y 1, eq_ix2 y⟩
  rw [yout_at hf t ht]
  unfold result
  have e0 : (((win0_10.blk t).view.emb (ix2 b o)) 0 : ℕ) = b.val := by blk_simp [hx.1, hx.2]
  have e1 : (((win0_10.blk t).view.emb (ix2 b o)) 1 : ℕ) = 512 * (t.val - 18) + o.val := by
    blk_simp [hx.1, hx.2]
    omega
  rw [e0, e1]

end Cert.KernelIdeal.Hand

end
-- ==== Proof.Scales.lean ====
/- Hand-written, untrusted: what the precondition says. Each scale array's absolute values are all below the infinity, so
   every scale is a real number. -/
module

public import proofs.«01_k».proof.Defs
public import proofs.«01_k».proof.Proof.Final
public import Idealize.ShloMosaic.Lib.ReduceAll

@[expose] public section

set_option maxRecDepth 16384

noncomputable section

namespace Cert.Pre_finite_scales

open Idealize.ShloMosaic

/-- The side conditions the precondition's operations take. -/
theorem facts : Facts where
  bcast_S_S4608x56 := by decide
  reducesTo_S4608x56_S_d0_1 := by decide
  h_S_ := by decide
  bcast_S_S7168x36 := by decide
  reducesTo_S7168x36_S_d0_1 := by decide

instance : Subsingleton S_.Idx := ⟨fun a b => funext fun d => d.elim0⟩

/-- An extended real whose absolute value is below the infinity is a real number. -/
theorem real_of_lt (a : Ideal .f32) (h : FloatOps.cmpf .olt (FloatOps.hostAbsf a) (FloatOps.ofBits (F := Ideal) .f32 0x7F800000#32) = 1#1) :
    ∃ r : ℝ, a = (r : EReal) := by
  have htop : Ideal.ofBits .f32 0x7F800000#32 = ⊤ := by simp [Ideal.ofBits, Ideal.ieee]
  change Ideal.cmp .olt (max (a : EReal) (-a)) (Ideal.ofBits .f32 0x7F800000#32) = 1#1 at h
  rw [htop] at h
  have h' : max (a : EReal) (-a) < ⊤ := by
    by_contra hn
    simp [Ideal.cmp, hn] at h
  change EReal at a
  induction a with
  | bot => simp at h'
  | coe r => exact ⟨r, rfl⟩
  | top => simp at h'

/-- A one-bit `and` that is one has both operands one. -/
theorem and_one (a b : BitVec 1) (h : IntOp.andi a b = 1#1) : a = 1#1 ∧ b = 1#1 := by
  revert a b; decide

end Cert.Pre_finite_scales

namespace Cert.KernelIdeal.Hand

open Cert.KernelIdeal Cert.Hand
open Idealize.ShloMosaic Idealize.ShloMosaic.TcCoe Idealize.SL.Sem

/-- Under the precondition every scale is a real number. -/
theorem finite_of_pre (hP : Cert.Pre_finite_scales.Facts) (m : (ℓ : Loc nD τ sig) → Buf (Elt Ideal) ℓ)
    (h : Cert.Pre_KernelIdeal_finite_scales (hPre_finite_scales := hP) m) (c : Dev nD) : Finite m c := by
  have hc := congrFun (h c) (fun d => d.elim0)
  obtain ⟨h12, h3⟩ := Cert.Pre_finite_scales.and_one _ _ hc
  obtain ⟨h1, h2⟩ := Cert.Pre_finite_scales.and_one _ _ h12
  exact ⟨fun o g => Cert.Pre_finite_scales.real_of_lt _ (Host.reduce_andi_all _ _ _ _ _ h1 (ix2 o g)),
    fun o g => Cert.Pre_finite_scales.real_of_lt _ (Host.reduce_andi_all _ _ _ _ _ h2 (ix2 o g)),
    fun o g => Cert.Pre_finite_scales.real_of_lt _ (Host.reduce_andi_all _ _ _ _ _ h3 (ix2 o g))⟩

end Cert.KernelIdeal.Hand

end
-- ==== Proof.RefVal.lean ====
/- Hand-written, untrusted: the reference's result at the extended reals, entry by entry. -/
module

public import proofs.«01_k».proof.Proof.Gen.ReferenceIdeal.Read
public import proofs.«01_k».proof.Proof.Spec
public import proofs.«01_k».proof.Proof.Bits

@[expose] public section

set_option maxRecDepth 16384
set_option synthInstance.maxSize 4096

noncomputable section

namespace Cert.ReferenceIdeal.Hand

open Cert.ReferenceIdeal Cert.ReferenceIdeal.Gen Cert.ReferenceIdeal.Read Cert.Hand
open Idealize.ShloMosaic

theorem eight : Ideal.ofBits .f32 1090519040#32 = ((8 : ℝ) : EReal) := by
  simp [Ideal.ofBits, Ideal.ieee, -EReal.coe_mul]; norm_num

/-- The low four bits of a byte, as a float less eight. -/
theorem lo_at (v : BitVec 8) : (FloatOps.sitofp (F := Ideal) FTy.f32 (IntOp.andi (BitVec.setWidth 32 v) 15#32) : EReal)
    - Ideal.ofBits FTy.f32 1090519040#32 = (nib v 0 : EReal) := by
  rw [eight]
  show (((IntOp.andi (BitVec.setWidth 32 v) 15#32).toInt : ℝ) : EReal) - _ = _
  rw [lo_nib, ← EReal.coe_sub]
  unfold nib
  push_cast
  rfl

/-- The high four bits of a byte, as a float less eight. -/
theorem hi_at (v : BitVec 8) : (FloatOps.sitofp (F := Ideal) FTy.f32 (IntOp.shrsi ArithUnit.host (BitVec.setWidth 32 v) 4#32) : EReal)
    - Ideal.ofBits FTy.f32 1090519040#32 = (nib v 1 : EReal) := by
  rw [eight]
  show (((IntOp.shrsi ArithUnit.host (BitVec.setWidth 32 v) 4#32).toInt : ℝ) : EReal) - _ = _
  rw [hi_nib, ← EReal.coe_sub]
  unfold nib
  push_cast
  rfl

theorem gate_at (x : (⟨S128x1x7168, .bf16⟩ : BufTy).Contents (Elt Ideal)) (q : (⟨S4608x3584, .i8⟩ : BufTy).Contents (Elt Ideal))
    (s : (⟨S4608x56, .f32⟩ : BufTy).Contents (Elt Ideal)) (b : Fin 128) (o : Fin 4608) :
    val_main_v26 (F := Ideal) x q s (ix3 b 0 o) = lin x q s b.val o.val := by
  pointwise [val_main_v0, val_main_v1, val_main_v2, val_main_c, val_main_v3, val_main_v4, val_main_v5, val_main_cst, val_main_v6, val_main_v7, val_main_v8, val_main_v9, val_main_v10, val_main_c_0, val_main_v11, val_main_v12, val_main_v13, val_main_cst_1, val_main_v14, val_main_v15, val_main_v16, val_main_v17, val_main_v18, val_main_v19, val_main_v20, val_main_v21, val_main_v22, val_main_v23, val_main_v24, val_main_v25, val_main_v26]
  unfold lin qlin
  simp only [Finset.sum_range]
  refine congrArg₂ (· + ·) (Finset.sum_comm.trans (Finset.sum_congr rfl fun g _ => Finset.sum_congr rfl fun c _ => ?_))
    (Finset.sum_comm.trans (Finset.sum_congr rfl fun g _ => Finset.sum_congr rfl fun c _ => ?_))
  · rw [lo_at, at3_eq x _ _ b.isLt (by omega), at2_eq 0 q _ _ o.isLt (by omega), at2_eq 0 s _ _ o.isLt g.isLt]
    simp only [Nat.mul_comm]
  · rw [hi_at, at3_eq x _ _ b.isLt (by omega), at2_eq 0 q _ _ o.isLt (by omega), at2_eq 0 s _ _ o.isLt g.isLt]
    simp only [Nat.mul_comm]

theorem up_at (x : (⟨S128x1x7168, .bf16⟩ : BufTy).Contents (Elt Ideal)) (q : (⟨S4608x3584, .i8⟩ : BufTy).Contents (Elt Ideal))
    (s : (⟨S4608x56, .f32⟩ : BufTy).Contents (Elt Ideal)) (b : Fin 128) (o : Fin 4608) :
    val_main_v53 (F := Ideal) x q s (ix3 b 0 o) = lin x q s b.val o.val := by
  rw [← gate_at]
  rfl

theorem hidden_at (x : (⟨S128x1x7168, .bf16⟩ : BufTy).Contents (Elt Ideal)) (gq : (⟨S4608x3584, .i8⟩ : BufTy).Contents (Elt Ideal))
    (gs : (⟨S4608x56, .f32⟩ : BufTy).Contents (Elt Ideal)) (uq : (⟨S4608x3584, .i8⟩ : BufTy).Contents (Elt Ideal))
    (us : (⟨S4608x56, .f32⟩ : BufTy).Contents (Elt Ideal)) (b : Fin 128) (o : Fin 4608) :
    val_main_v56 (F := Ideal) x gq gs uq us (ix3 b 0 o) = gated (lin x gq gs b.val o.val) (lin x uq us b.val o.val) := by
  pointwise [val_main_call0_v0, val_main_call0_v1, val_main_call0_cst, val_main_call0_v2, val_main_call0_v3, val_main_call0_cst_0, val_main_call0_v4, val_main_call0_v5, val_main_v54, val_main_v55, val_main_v56, gate_at, up_at]
  rfl

theorem out_at (x : (⟨S128x1x7168, .bf16⟩ : BufTy).Contents (Elt Ideal)) (gq : (⟨S4608x3584, .i8⟩ : BufTy).Contents (Elt Ideal))
    (gs : (⟨S4608x56, .f32⟩ : BufTy).Contents (Elt Ideal)) (uq : (⟨S4608x3584, .i8⟩ : BufTy).Contents (Elt Ideal))
    (us : (⟨S4608x56, .f32⟩ : BufTy).Contents (Elt Ideal)) (dq : (⟨S7168x2304, .i8⟩ : BufTy).Contents (Elt Ideal))
    (ds : (⟨S7168x36, .f32⟩ : BufTy).Contents (Elt Ideal)) (b : Fin 128) (o : Fin 7168) :
    val_main_v85 (F := Ideal) x gq gs uq us dq ds (ix2 b o) = mlp x gq gs uq us dq ds b.val o.val := by
  pointwise [val_main_v57, val_main_v58, val_main_v59, val_main_c_6, val_main_v60, val_main_v61, val_main_v62, val_main_cst_7, val_main_v63, val_main_v64, val_main_v65, val_main_v66, val_main_v67, val_main_c_8, val_main_v68, val_main_v69, val_main_v70, val_main_cst_9, val_main_v71, val_main_v72, val_main_v73, val_main_v74, val_main_v75, val_main_v76, val_main_v77, val_main_v78, val_main_v79, val_main_v80, val_main_v81, val_main_v82, val_main_v83, val_main_v84, val_main_v85, hidden_at]
  unfold mlp qlin
  simp only [Finset.sum_range]
  refine congrArg₂ (· + ·) (Finset.sum_comm.trans (Finset.sum_congr rfl fun g _ => Finset.sum_congr rfl fun c _ => ?_))
    (Finset.sum_comm.trans (Finset.sum_congr rfl fun g _ => Finset.sum_congr rfl fun c _ => ?_))
  · rw [lo_at, at2_eq 0 dq _ _ o.isLt (by omega), at2_eq 0 ds _ _ o.isLt g.isLt]
    simp only [Nat.mul_comm]
  · rw [hi_at, at2_eq 0 dq _ _ o.isLt (by omega), at2_eq 0 ds _ _ o.isLt g.isLt]
    simp only [Nat.mul_comm]

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.KernelFrame
public import proofs.«01_k».proof.Proof.Vals
public import proofs.«01_k».proof.Proof.Final
public import proofs.«01_k».proof.Proof.Scales
public import proofs.«01_k».proof.Proof.RefVal
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel terminates, leaves its arguments unchanged and every counter at zero. -/
theorem frame_kernel : Cert.quiescent_Kernel := fun m ρ _ => Cert.Kernel.Hand.frame m ρ

/-- So does the idealized kernel. -/
theorem frame_ideal : Cert.quiescent_KernelIdeal := fun m ρ _ => Cert.KernelIdeal.Hand.frame m ρ

/-- The idealized kernel under the precondition: the same frame. -/
theorem frame_ideal_pre (hP : Cert.Pre_finite_scales.Facts) :
    Cert.quiescent_KernelIdeal_pre_finite_scales (hPre_finite_scales := hP) := fun m ρ _ => Cert.KernelIdeal.Hand.frame m ρ

/-- The reference terminates and leaves its arguments unchanged; it declares no semaphore. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference under the precondition: the same frame. -/
theorem frame_ref_pre (hP : Cert.Pre_finite_scales.Facts) :
    Cert.quiescent_ReferenceIdeal_pre_finite_scales (hPre_finite_scales := hP) := fun m ρ _ => frame_ref m ρ trivial

/-- The idealized kernel and the reference end with the same result: from memories that agree on the arguments, with every
    scale finite, both leave `Cert.Hand.mlp` of the arguments. -/
theorem algebraic (hP : Cert.Pre_finite_scales.Facts) :
    Cert.algebraic_KernelIdeal_ReferenceIdeal_pre_finite_scales (hPre_finite_scales := hP) := by
  intro m ρ m' ρ' hpre hagree
  refine ⟨fun c => Cert.KernelIdeal.Hand.result m c, ?_, ?_⟩
  · refine (θ_run Cert.KernelIdeal.defs _ _).mono (fun r h c => ⟨?_, h.2 c⟩)
      (θ_run_and (Cert.KernelIdeal.Hand.run_main m ρ)
        (Cert.KernelIdeal.Gen.frame_of m ρ (Cert.KernelIdeal.Hand.dats m) (Cert.KernelIdeal.Hand.A_eq m)
          (Cert.KernelIdeal.Hand.run_main m ρ)))
    exact ((h.1 c).1 10).trans
      (Cert.KernelIdeal.Hand.out_eq (Cert.KernelIdeal.Hand.finite_of_pre hP m hpre c))
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v85_eq, h0, h1, h2, h3, h4, h5, h6]
    funext i
    obtain ⟨b, o, rfl⟩ : ∃ (b : Fin 128) (o : Fin 7168), i = ix2 b o := ⟨i 0, i 1, eq_ix2 i⟩
    exact Cert.ReferenceIdeal.Hand.out_at _ _ _ _ _ _ _ b o

theorem claim : Cert.Claim :=
  ⟨Cert.Kernel.Gen.facts, Cert.KernelIdeal.Gen.facts, Cert.ReferenceIdeal.Gen.facts, Cert.Pre_finite_scales.facts,
    frame_kernel, frame_ideal, frame_ideal_pre _, frame_ref, frame_ref_pre _, trivial, algebraic _⟩

end Cert.Proof

end
